-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_ReferenceIdeal.lean ====
abbrev S256x512 : Shape := ⟨2, ![256, 512]⟩
abbrev S512x8192 : Shape := ⟨2, ![512, 8192]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x8192 : S_.BroadcastsInDim S512x8192 (![] : Fin 0 → Fin S512x8192.rank)
  reducesTo_S512x8192_S_d0_1 : S512x8192.ReducesTo [0, 1] S_

variable [Facts]

def fn {F : FTy → Type} [FloatOps F] (main_arg0 : FVec F S256x512 .f32) (main_arg1 : FVec F S512x8192 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x8192 .f32 := Host.absf main_arg1
  let main_cst_0 : FVec F S_ .f32 := constant S_ .f32 0x7F800000#32
  let main_v5 : FVec F S512x8192 .f32 := broadcastInDim S512x8192 ![] bcast_S_S512x8192 main_cst_0
  let main_v6 : IVec S512x8192 1 := cmpf .olt main_v4 main_v5
  let main_c_1 : IVec S_ 1 := constantI S_ 1 1#1
  let main_v7 : IVec S_ 1 := (fun x v => Host.reduce IntOp.andi x v reducesTo_S512x8192_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x8192 : Shape := ⟨2, ![256, 8192]⟩
abbrev S11 : Shape := ⟨1, ![11]⟩
abbrev S10 : Shape := ⟨1, ![10]⟩
abbrev S_ : Shape := ⟨0, ![]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S256x128 : Shape := ⟨2, ![256, 128]⟩
abbrev S256x384 : Shape := ⟨2, ![256, 384]⟩
abbrev S256x256 : Shape := ⟨2, ![256, 256]⟩

abbrev nBuf : Space → Nat
  | .hbm => 3
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x8192, .f32⟩
  | .local _ .vmem, ⟨0, _⟩ => ⟨S256x512, .f32⟩
  | .local _ .vmem, ⟨1, _⟩ => ⟨S512x4096, .f32⟩
  | .local _ .vmem, ⟨2, _⟩ => ⟨S256x8192, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_24 : BitVec 32 := 8#32
  let v44 : BitVec 32 := Scalar.muli v2 c8_i32_24
  let v45 : BitVec 32 := Scalar.addi c0_i32_25 v44
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_26 : BitVec 32 := 4#32
  let v46 : BitVec 32 := Scalar.muli v22 c4_i32_26
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v48 : BitVec 32 := Scalar.muli v8 c1_i32_27
  let v49 : BitVec 32 := Scalar.addi v47 v48
  v49.toNat
def k0_dev2 (d0 : Dev nD) : Nat :=
  let c0_i32_30 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_29 : BitVec 32 := 8#32
  let v50 : BitVec 32 := Scalar.muli v23 c8_i32_29
  let v51 : BitVec 32 := Scalar.addi c0_i32_30 v50
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_31 : BitVec 32 := 4#32
  let v52 : BitVec 32 := Scalar.muli v5 c4_i32_31
  let v53 : BitVec 32 := Scalar.addi v51 v52
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v54 : BitVec 32 := Scalar.muli v8 c1_i32_32
  let v55 : BitVec 32 := Scalar.addi v53 v54
  v55.toNat
def k0_dev3 (d0 : Dev nD) : Nat :=
  let c0_i32_35 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_34 : BitVec 32 := 8#32
  let v56 : BitVec 32 := Scalar.muli v2 c8_i32_34
  let v57 : BitVec 32 := Scalar.addi c0_i32_35 v56
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_36 : BitVec 32 := 4#32
  let v58 : BitVec 32 := Scalar.muli v5 c4_i32_36
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_37 : BitVec 32 := 1#32
  let v60 : BitVec 32 := Scalar.muli v21 c1_i32_37
  let v61 : BitVec 32 := Scalar.addi v59 v60
  v61.toNat
def k0_off1 (d0 : Dev nD) : Fin 2 → Nat :=
  let c0_64 : Index := 0#32
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c1024_i32 : BitVec 32 := 1024#32
  let v29 : BitVec 32 := Scalar.muli v28 c1024_i32
  let v128 : Index := Scalar.indexCast v29
  ![0, v128.toNat]
def k0_off2 (d0 : Dev nD) : Fin 2 → Nat :=
  let c0_65 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v24 : BitVec 32 := Scalar.muli v5 c4096_i32
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c1024_i32 : BitVec 32 := 1024#32
  let v29 : BitVec 32 := Scalar.muli v28 c1024_i32
  let v133 : BitVec 32 := Scalar.addi v24 v29
  let v134 : Index := Scalar.indexCast v133
  ![0, v134.toNat]
def k0_off3 (d0 : Dev nD) (c0_i32_38 : BitVec 32) : Fin 2 → Nat :=
  let c0_i32_73 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v24 : BitVec 32 := Scalar.muli v5 c4096_i32
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c1024_i32 : BitVec 32 := 1024#32
  let v29 : BitVec 32 := Scalar.muli v28 c1024_i32
  let v62 : BitVec 32 := Scalar.addi v24 v29
  let v63 : BitVec 32 := Scalar.addi v62 c0_i32_38
  ![0, v63.toNat]
def k0_dev4 (d0 : Dev nD) : Nat :=
  let c0_i32_70 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_69 : BitVec 32 := 8#32
  let v138 : BitVec 32 := Scalar.muli v2 c8_i32_69
  let v139 : BitVec 32 := Scalar.addi c0_i32_70 v138
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_71 : BitVec 32 := 4#32
  let v140 : BitVec 32 := Scalar.muli v22 c4_i32_71
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_72 : BitVec 32 := 1#32
  let v142 : BitVec 32 := Scalar.muli v8 c1_i32_72
  let v143 : BitVec 32 := Scalar.addi v141 v142
  v143.toNat
def k0_dev5 (d0 : Dev nD) : Nat :=
  let c0_i32_78 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_77 : BitVec 32 := 8#32
  let v150 : BitVec 32 := Scalar.muli v2 c8_i32_77
  let v151 : BitVec 32 := Scalar.addi c0_i32_78 v150
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_79 : BitVec 32 := 4#32
  let v152 : BitVec 32 := Scalar.muli v22 c4_i32_79
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v154 : BitVec 32 := Scalar.muli v8 c1_i32_80
  let v155 : BitVec 32 := Scalar.addi v153 v154
  v155.toNat
def k0_dev6 (d0 : Dev nD) : Nat :=
  let c0_i32_86 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_85 : BitVec 32 := 8#32
  let v162 : BitVec 32 := Scalar.muli v2 c8_i32_85
  let v163 : BitVec 32 := Scalar.addi c0_i32_86 v162
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_87 : BitVec 32 := 4#32
  let v164 : BitVec 32 := Scalar.muli v22 c4_i32_87
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v166 : BitVec 32 := Scalar.muli v8 c1_i32_88
  let v167 : BitVec 32 := Scalar.addi v165 v166
  v167.toNat
def k0_dev7 (d0 : Dev nD) : Nat :=
  let c0_i32_94 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_93 : BitVec 32 := 8#32
  let v174 : BitVec 32 := Scalar.muli v2 c8_i32_93
  let v175 : BitVec 32 := Scalar.addi c0_i32_94 v174
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_95 : BitVec 32 := 4#32
  let v176 : BitVec 32 := Scalar.muli v22 c4_i32_95
  let v177 : BitVec 32 := Scalar.addi v175 v176
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_96 : BitVec 32 := 1#32
  let v178 : BitVec 32 := Scalar.muli v8 c1_i32_96
  let v179 : BitVec 32 := Scalar.addi v177 v178
  v179.toNat
def k0_dev8 (d0 : Dev nD) : Nat :=
  let c0_i32_102 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_101 : BitVec 32 := 8#32
  let v186 : BitVec 32 := Scalar.muli v2 c8_i32_101
  let v187 : BitVec 32 := Scalar.addi c0_i32_102 v186
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_103 : BitVec 32 := 4#32
  let v188 : BitVec 32 := Scalar.muli v22 c4_i32_103
  let v189 : BitVec 32 := Scalar.addi v187 v188
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v190 : BitVec 32 := Scalar.muli v8 c1_i32_104
  let v191 : BitVec 32 := Scalar.addi v189 v190
  v191.toNat
def k0_dev9 (d0 : Dev nD) : Nat :=
  let c0_i32_109 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_108 : BitVec 32 := 8#32
  let v198 : BitVec 32 := Scalar.muli v2 c8_i32_108
  let v199 : BitVec 32 := Scalar.addi c0_i32_109 v198
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_110 : BitVec 32 := 4#32
  let v200 : BitVec 32 := Scalar.muli v22 c4_i32_110
  let v201 : BitVec 32 := Scalar.addi v199 v200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v202 : BitVec 32 := Scalar.muli v8 c1_i32_111
  let v203 : BitVec 32 := Scalar.addi v201 v202
  v203.toNat
def k0_dev10 (d0 : Dev nD) : Nat :=
  let c0_i32_116 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_115 : BitVec 32 := 8#32
  let v210 : BitVec 32 := Scalar.muli v2 c8_i32_115
  let v211 : BitVec 32 := Scalar.addi c0_i32_116 v210
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_117 : BitVec 32 := 4#32
  let v212 : BitVec 32 := Scalar.muli v22 c4_i32_117
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v214 : BitVec 32 := Scalar.muli v8 c1_i32_118
  let v215 : BitVec 32 := Scalar.addi v213 v214
  v215.toNat
def k0_dev11 (d0 : Dev nD) : Nat :=
  let c0_i32_123 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_122 : BitVec 32 := 8#32
  let v222 : BitVec 32 := Scalar.muli v2 c8_i32_122
  let v223 : BitVec 32 := Scalar.addi c0_i32_123 v222
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_124 : BitVec 32 := 4#32
  let v224 : BitVec 32 := Scalar.muli v22 c4_i32_124
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v226 : BitVec 32 := Scalar.muli v8 c1_i32_125
  let v227 : BitVec 32 := Scalar.addi v225 v226
  v227.toNat
def k0_off4 (d0 : Dev nD) : Fin 2 → Nat :=
  let c0_128 : Index := 0#32
  let c2_i32_15 : BitVec 32 := 2#32
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v30 : BitVec 32 := Scalar.subi c1_i32_13 v2
  let v32 : BitVec 32 := Scalar.muli c2_i32_15 v30
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_14 v18
  let v33 : BitVec 32 := Scalar.addi v32 v31
  let c1024_i32_16 : BitVec 32 := 1024#32
  let v34 : BitVec 32 := Scalar.muli v33 c1024_i32_16
  let v234 : Index := Scalar.indexCast v34
  ![0, v234.toNat]
def k0_off5 (d0 : Dev nD) : Fin 2 → Nat :=
  let c0_130 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v24 : BitVec 32 := Scalar.muli v5 c4096_i32
  let c2_i32_15 : BitVec 32 := 2#32
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v30 : BitVec 32 := Scalar.subi c1_i32_13 v2
  let v32 : BitVec 32 := Scalar.muli c2_i32_15 v30
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_14 v18
  let v33 : BitVec 32 := Scalar.addi v32 v31
  let c1024_i32_16 : BitVec 32 := 1024#32
  let v34 : BitVec 32 := Scalar.muli v33 c1024_i32_16
  let v239 : BitVec 32 := Scalar.addi v24 v34
  let v240 : Index := Scalar.indexCast v239
  ![0, v240.toNat]
def k0_off6 (d0 : Dev nD) (c0_i32_39 : BitVec 32) : Fin 2 → Nat :=
  let c0_i32_138 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v24 : BitVec 32 := Scalar.muli v5 c4096_i32
  let c2_i32_15 : BitVec 32 := 2#32
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v30 : BitVec 32 := Scalar.subi c1_i32_13 v2
  let v32 : BitVec 32 := Scalar.muli c2_i32_15 v30
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_14 v18
  let v33 : BitVec 32 := Scalar.addi v32 v31
  let c1024_i32_16 : BitVec 32 := 1024#32
  let v34 : BitVec 32 := Scalar.muli v33 c1024_i32_16
  let v78 : BitVec 32 := Scalar.addi v24 v34
  let v79 : BitVec 32 := Scalar.addi v78 c0_i32_39
  ![0, v79.toNat]
def k0_dev12 (d0 : Dev nD) : Nat :=
  let c0_i32_135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_134 : BitVec 32 := 8#32
  let v245 : BitVec 32 := Scalar.muli v2 c8_i32_134
  let v246 : BitVec 32 := Scalar.addi c0_i32_135 v245
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_136 : BitVec 32 := 4#32
  let v247 : BitVec 32 := Scalar.muli v22 c4_i32_136
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v249 : BitVec 32 := Scalar.muli v8 c1_i32_137
  let v250 : BitVec 32 := Scalar.addi v248 v249
  v250.toNat
def k0_dev13 (d0 : Dev nD) : Nat :=
  let c0_i32_142 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_141 : BitVec 32 := 8#32
  let v257 : BitVec 32 := Scalar.muli v2 c8_i32_141
  let v258 : BitVec 32 := Scalar.addi c0_i32_142 v257
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_143 : BitVec 32 := 4#32
  let v259 : BitVec 32 := Scalar.muli v22 c4_i32_143
  let v260 : BitVec 32 := Scalar.addi v258 v259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_144 : BitVec 32 := 1#32
  let v261 : BitVec 32 := Scalar.muli v8 c1_i32_144
  let v262 : BitVec 32 := Scalar.addi v260 v261
  v262.toNat
def k0_dev14 (d0 : Dev nD) : Nat :=
  let c0_i32_149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_148 : BitVec 32 := 8#32
  let v269 : BitVec 32 := Scalar.muli v2 c8_i32_148
  let v270 : BitVec 32 := Scalar.addi c0_i32_149 v269
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.subi c1_i32_8 v5
  let c4_i32_150 : BitVec 32 := 4#32
  let v271 : BitVec 32 := Scalar.muli v22 c4_i32_150
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v273 : BitVec 32 := Scalar.muli v8 c1_i32_151
  let v274 : BitVec 32 := Scalar.addi v272 v273
  v274.toNat
def k0_off7 (d0 : Dev nD) : Fin 2 → Nat :=
  let c0_154 : Index := 0#32
  let c2_i32_18 : BitVec 32 := 2#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_17 v2
  let v36 : BitVec 32 := Scalar.muli c2_i32_18 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.addi v36 v18
  let c1024_i32_19 : BitVec 32 := 1024#32
  let v38 : BitVec 32 := Scalar.muli v37 c1024_i32_19
  let v281 : Index := Scalar.indexCast v38
  ![0, v281.toNat]
def k0_off8 (d0 : Dev nD) : Fin 2 → Nat :=
  let c0_156 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v24 : BitVec 32 := Scalar.muli v5 c4096_i32
  let c2_i32_18 : BitVec 32 := 2#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_17 v2
  let v36 : BitVec 32 := Scalar.muli c2_i32_18 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.addi v36 v18
  let c1024_i32_19 : BitVec 32 := 1024#32
  let v38 : BitVec 32 := Scalar.muli v37 c1024_i32_19
  let v286 : BitVec 32 := Scalar.addi v24 v38
  let v287 : Index := Scalar.indexCast v286
  ![0, v287.toNat]
def k0_off9 (d0 : Dev nD) : Fin 2 → Nat :=
  let c0_158 : Index := 0#32
  let c2_i32_21 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.muli c2_i32_21 v2
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.subi c1_i32_20 v18
  let v41 : BitVec 32 := Scalar.addi v40 v39
  let c1024_i32_22 : BitVec 32 := 1024#32
  let v42 : BitVec 32 := Scalar.muli v41 c1024_i32_22
  let v292 : Index := Scalar.indexCast v42
  ![0, v292.toNat]
def k0_off10 (d0 : Dev nD) : Fin 2 → Nat :=
  let c0_160 : Index := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4096_i32 : BitVec 32 := 4096#32
  let v24 : BitVec 32 := Scalar.muli v5 c4096_i32
  let c2_i32_21 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.muli c2_i32_21 v2
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.subi c1_i32_20 v18
  let v41 : BitVec 32 := Scalar.addi v40 v39
  let c1024_i32_22 : BitVec 32 := 1024#32
  let v42 : BitVec 32 := Scalar.muli v41 c1024_i32_22
  let v297 : BitVec 32 := Scalar.addi v24 v42
  let v298 : Index := Scalar.indexCast v297
  ![0, v298.toNat]
def k0_off11 (d0 : Dev nD) (c0_i32_42 : BitVec 32) : Fin 2 → Nat :=
  let c0_i32_176 : BitVec 32 := 0#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_10 v5
  let c4096_i32_11 : BitVec 32 := 4096#32
  let v26 : BitVec 32 := Scalar.muli v25 c4096_i32_11
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c1024_i32 : BitVec 32 := 1024#32
  let v29 : BitVec 32 := Scalar.muli v28 c1024_i32
  let v84 : BitVec 32 := Scalar.addi v26 v29
  let v85 : BitVec 32 := Scalar.addi v84 c0_i32_42
  ![0, v85.toNat]
def k0_dev15 (d0 : Dev nD) : Nat :=
  let c0_i32_173 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_172 : BitVec 32 := 8#32
  let v313 : BitVec 32 := Scalar.muli v23 c8_i32_172
  let v314 : BitVec 32 := Scalar.addi c0_i32_173 v313
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_174 : BitVec 32 := 4#32
  let v315 : BitVec 32 := Scalar.muli v5 c4_i32_174
  let v316 : BitVec 32 := Scalar.addi v314 v315
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_175 : BitVec 32 := 1#32
  let v317 : BitVec 32 := Scalar.muli v8 c1_i32_175
  let v318 : BitVec 32 := Scalar.addi v316 v317
  v318.toNat
def k0_dev16 (d0 : Dev nD) : Nat :=
  let c0_i32_181 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_180 : BitVec 32 := 8#32
  let v325 : BitVec 32 := Scalar.muli v2 c8_i32_180
  let v326 : BitVec 32 := Scalar.addi c0_i32_181 v325
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_182 : BitVec 32 := 4#32
  let v327 : BitVec 32 := Scalar.muli v5 c4_i32_182
  let v328 : BitVec 32 := Scalar.addi v326 v327
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_183 : BitVec 32 := 1#32
  let v329 : BitVec 32 := Scalar.muli v21 c1_i32_183
  let v330 : BitVec 32 := Scalar.addi v328 v329
  v330.toNat
def k0_dev17 (d0 : Dev nD) : Nat :=
  let c0_i32_197 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_196 : BitVec 32 := 8#32
  let v347 : BitVec 32 := Scalar.muli v23 c8_i32_196
  let v348 : BitVec 32 := Scalar.addi c0_i32_197 v347
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_198 : BitVec 32 := 4#32
  let v349 : BitVec 32 := Scalar.muli v5 c4_i32_198
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_199 : BitVec 32 := 1#32
  let v351 : BitVec 32 := Scalar.muli v8 c1_i32_199
  let v352 : BitVec 32 := Scalar.addi v350 v351
  v352.toNat
def k0_dev18 (d0 : Dev nD) : Nat :=
  let c0_i32_205 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_204 : BitVec 32 := 8#32
  let v359 : BitVec 32 := Scalar.muli v2 c8_i32_204
  let v360 : BitVec 32 := Scalar.addi c0_i32_205 v359
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_206 : BitVec 32 := 4#32
  let v361 : BitVec 32 := Scalar.muli v5 c4_i32_206
  let v362 : BitVec 32 := Scalar.addi v360 v361
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_207 : BitVec 32 := 1#32
  let v363 : BitVec 32 := Scalar.muli v21 c1_i32_207
  let v364 : BitVec 32 := Scalar.addi v362 v363
  v364.toNat
def k0_dev19 (d0 : Dev nD) : Nat :=
  let c0_i32_221 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_220 : BitVec 32 := 8#32
  let v381 : BitVec 32 := Scalar.muli v23 c8_i32_220
  let v382 : BitVec 32 := Scalar.addi c0_i32_221 v381
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_222 : BitVec 32 := 4#32
  let v383 : BitVec 32 := Scalar.muli v5 c4_i32_222
  let v384 : BitVec 32 := Scalar.addi v382 v383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_223 : BitVec 32 := 1#32
  let v385 : BitVec 32 := Scalar.muli v8 c1_i32_223
  let v386 : BitVec 32 := Scalar.addi v384 v385
  v386.toNat
def k0_dev20 (d0 : Dev nD) : Nat :=
  let c0_i32_229 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_228 : BitVec 32 := 8#32
  let v393 : BitVec 32 := Scalar.muli v2 c8_i32_228
  let v394 : BitVec 32 := Scalar.addi c0_i32_229 v393
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_230 : BitVec 32 := 4#32
  let v395 : BitVec 32 := Scalar.muli v5 c4_i32_230
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_231 : BitVec 32 := 1#32
  let v397 : BitVec 32 := Scalar.muli v21 c1_i32_231
  let v398 : BitVec 32 := Scalar.addi v396 v397
  v398.toNat
def k0_dev21 (d0 : Dev nD) : Nat :=
  let c0_i32_245 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_244 : BitVec 32 := 8#32
  let v415 : BitVec 32 := Scalar.muli v23 c8_i32_244
  let v416 : BitVec 32 := Scalar.addi c0_i32_245 v415
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_246 : BitVec 32 := 4#32
  let v417 : BitVec 32 := Scalar.muli v5 c4_i32_246
  let v418 : BitVec 32 := Scalar.addi v416 v417
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v419 : BitVec 32 := Scalar.muli v8 c1_i32_247
  let v420 : BitVec 32 := Scalar.addi v418 v419
  v420.toNat
def k0_dev22 (d0 : Dev nD) : Nat :=
  let c0_i32_253 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_252 : BitVec 32 := 8#32
  let v427 : BitVec 32 := Scalar.muli v2 c8_i32_252
  let v428 : BitVec 32 := Scalar.addi c0_i32_253 v427
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_254 : BitVec 32 := 4#32
  let v429 : BitVec 32 := Scalar.muli v5 c4_i32_254
  let v430 : BitVec 32 := Scalar.addi v428 v429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_255 : BitVec 32 := 1#32
  let v431 : BitVec 32 := Scalar.muli v21 c1_i32_255
  let v432 : BitVec 32 := Scalar.addi v430 v431
  v432.toNat
def k0_dev23 (d0 : Dev nD) : Nat :=
  let c0_i32_269 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_268 : BitVec 32 := 8#32
  let v449 : BitVec 32 := Scalar.muli v23 c8_i32_268
  let v450 : BitVec 32 := Scalar.addi c0_i32_269 v449
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_270 : BitVec 32 := 4#32
  let v451 : BitVec 32 := Scalar.muli v5 c4_i32_270
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_271 : BitVec 32 := 1#32
  let v453 : BitVec 32 := Scalar.muli v8 c1_i32_271
  let v454 : BitVec 32 := Scalar.addi v452 v453
  v454.toNat
def k0_dev24 (d0 : Dev nD) : Nat :=
  let c0_i32_277 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_276 : BitVec 32 := 8#32
  let v461 : BitVec 32 := Scalar.muli v2 c8_i32_276
  let v462 : BitVec 32 := Scalar.addi c0_i32_277 v461
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_278 : BitVec 32 := 4#32
  let v463 : BitVec 32 := Scalar.muli v5 c4_i32_278
  let v464 : BitVec 32 := Scalar.addi v462 v463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_279 : BitVec 32 := 1#32
  let v465 : BitVec 32 := Scalar.muli v21 c1_i32_279
  let v466 : BitVec 32 := Scalar.addi v464 v465
  v466.toNat
def k0_dev25 (d0 : Dev nD) : Nat :=
  let c0_i32_293 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_292 : BitVec 32 := 8#32
  let v483 : BitVec 32 := Scalar.muli v23 c8_i32_292
  let v484 : BitVec 32 := Scalar.addi c0_i32_293 v483
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_294 : BitVec 32 := 4#32
  let v485 : BitVec 32 := Scalar.muli v5 c4_i32_294
  let v486 : BitVec 32 := Scalar.addi v484 v485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_295 : BitVec 32 := 1#32
  let v487 : BitVec 32 := Scalar.muli v8 c1_i32_295
  let v488 : BitVec 32 := Scalar.addi v486 v487
  v488.toNat
def k0_dev26 (d0 : Dev nD) : Nat :=
  let c0_i32_301 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_300 : BitVec 32 := 8#32
  let v495 : BitVec 32 := Scalar.muli v2 c8_i32_300
  let v496 : BitVec 32 := Scalar.addi c0_i32_301 v495
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_302 : BitVec 32 := 4#32
  let v497 : BitVec 32 := Scalar.muli v5 c4_i32_302
  let v498 : BitVec 32 := Scalar.addi v496 v497
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_303 : BitVec 32 := 1#32
  let v499 : BitVec 32 := Scalar.muli v21 c1_i32_303
  let v500 : BitVec 32 := Scalar.addi v498 v499
  v500.toNat
def k0_dev27 (d0 : Dev nD) : Nat :=
  let c0_i32_317 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_316 : BitVec 32 := 8#32
  let v517 : BitVec 32 := Scalar.muli v23 c8_i32_316
  let v518 : BitVec 32 := Scalar.addi c0_i32_317 v517
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_318 : BitVec 32 := 4#32
  let v519 : BitVec 32 := Scalar.muli v5 c4_i32_318
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_319 : BitVec 32 := 1#32
  let v521 : BitVec 32 := Scalar.muli v8 c1_i32_319
  let v522 : BitVec 32 := Scalar.addi v520 v521
  v522.toNat
def k0_dev28 (d0 : Dev nD) : Nat :=
  let c0_i32_325 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_324 : BitVec 32 := 8#32
  let v529 : BitVec 32 := Scalar.muli v2 c8_i32_324
  let v530 : BitVec 32 := Scalar.addi c0_i32_325 v529
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_326 : BitVec 32 := 4#32
  let v531 : BitVec 32 := Scalar.muli v5 c4_i32_326
  let v532 : BitVec 32 := Scalar.addi v530 v531
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_327 : BitVec 32 := 1#32
  let v533 : BitVec 32 := Scalar.muli v21 c1_i32_327
  let v534 : BitVec 32 := Scalar.addi v532 v533
  v534.toNat
def k0_dev29 (d0 : Dev nD) : Nat :=
  let c0_i32_341 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_340 : BitVec 32 := 8#32
  let v551 : BitVec 32 := Scalar.muli v23 c8_i32_340
  let v552 : BitVec 32 := Scalar.addi c0_i32_341 v551
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_342 : BitVec 32 := 4#32
  let v553 : BitVec 32 := Scalar.muli v5 c4_i32_342
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_343 : BitVec 32 := 1#32
  let v555 : BitVec 32 := Scalar.muli v8 c1_i32_343
  let v556 : BitVec 32 := Scalar.addi v554 v555
  v556.toNat
def k0_dev30 (d0 : Dev nD) : Nat :=
  let c0_i32_349 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_348 : BitVec 32 := 8#32
  let v563 : BitVec 32 := Scalar.muli v2 c8_i32_348
  let v564 : BitVec 32 := Scalar.addi c0_i32_349 v563
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_350 : BitVec 32 := 4#32
  let v565 : BitVec 32 := Scalar.muli v5 c4_i32_350
  let v566 : BitVec 32 := Scalar.addi v564 v565
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_351 : BitVec 32 := 1#32
  let v567 : BitVec 32 := Scalar.muli v21 c1_i32_351
  let v568 : BitVec 32 := Scalar.addi v566 v567
  v568.toNat
def k0_off12 (d0 : Dev nD) : Fin 2 → Nat :=
  let c0_354 : Index := 0#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_10 v5
  let c4096_i32_11 : BitVec 32 := 4096#32
  let v26 : BitVec 32 := Scalar.muli v25 c4096_i32_11
  let c2_i32_12 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.muli c2_i32_12 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v28 : BitVec 32 := Scalar.addi v27 v18
  let c1024_i32 : BitVec 32 := 1024#32
  let v29 : BitVec 32 := Scalar.muli v28 c1024_i32
  let v575 : BitVec 32 := Scalar.addi v26 v29
  let v576 : Index := Scalar.indexCast v575
  ![0, v576.toNat]
def k0_off13 (d0 : Dev nD) : Fin 2 → Nat :=
  let c0_380 : Index := 0#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_10 v5
  let c4096_i32_11 : BitVec 32 := 4096#32
  let v26 : BitVec 32 := Scalar.muli v25 c4096_i32_11
  let c2_i32_15 : BitVec 32 := 2#32
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v30 : BitVec 32 := Scalar.subi c1_i32_13 v2
  let v32 : BitVec 32 := Scalar.muli c2_i32_15 v30
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_14 v18
  let v33 : BitVec 32 := Scalar.addi v32 v31
  let c1024_i32_16 : BitVec 32 := 1024#32
  let v34 : BitVec 32 := Scalar.muli v33 c1024_i32_16
  let v612 : BitVec 32 := Scalar.addi v26 v34
  let v613 : Index := Scalar.indexCast v612
  ![0, v613.toNat]
def k0_off14 (d0 : Dev nD) (c384_i32_50 : BitVec 32) : Fin 2 → Nat :=
  let c0_i32_420 : BitVec 32 := 0#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_10 v5
  let c4096_i32_11 : BitVec 32 := 4096#32
  let v26 : BitVec 32 := Scalar.muli v25 c4096_i32_11
  let c2_i32_21 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.muli c2_i32_21 v2
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.subi c1_i32_20 v18
  let v41 : BitVec 32 := Scalar.addi v40 v39
  let c1024_i32_22 : BitVec 32 := 1024#32
  let v42 : BitVec 32 := Scalar.muli v41 c1024_i32_22
  let v100 : BitVec 32 := Scalar.addi v26 v42
  let v101 : BitVec 32 := Scalar.addi v100 c384_i32_50
  ![0, v101.toNat]
def k0_dev31 (d0 : Dev nD) : Nat :=
  let c0_i32_417 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_416 : BitVec 32 := 8#32
  let v659 : BitVec 32 := Scalar.muli v23 c8_i32_416
  let v660 : BitVec 32 := Scalar.addi c0_i32_417 v659
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_418 : BitVec 32 := 4#32
  let v661 : BitVec 32 := Scalar.muli v5 c4_i32_418
  let v662 : BitVec 32 := Scalar.addi v660 v661
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_419 : BitVec 32 := 1#32
  let v663 : BitVec 32 := Scalar.muli v8 c1_i32_419
  let v664 : BitVec 32 := Scalar.addi v662 v663
  v664.toNat
def k0_dev32 (d0 : Dev nD) : Nat :=
  let c0_i32_433 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_432 : BitVec 32 := 8#32
  let v681 : BitVec 32 := Scalar.muli v23 c8_i32_432
  let v682 : BitVec 32 := Scalar.addi c0_i32_433 v681
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_434 : BitVec 32 := 4#32
  let v683 : BitVec 32 := Scalar.muli v5 c4_i32_434
  let v684 : BitVec 32 := Scalar.addi v682 v683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_435 : BitVec 32 := 1#32
  let v685 : BitVec 32 := Scalar.muli v8 c1_i32_435
  let v686 : BitVec 32 := Scalar.addi v684 v685
  v686.toNat
def k0_dev33 (d0 : Dev nD) : Nat :=
  let c0_i32_449 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_9 v2
  let c8_i32_448 : BitVec 32 := 8#32
  let v703 : BitVec 32 := Scalar.muli v23 c8_i32_448
  let v704 : BitVec 32 := Scalar.addi c0_i32_449 v703
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_450 : BitVec 32 := 4#32
  let v705 : BitVec 32 := Scalar.muli v5 c4_i32_450
  let v706 : BitVec 32 := Scalar.addi v704 v705
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_451 : BitVec 32 := 1#32
  let v707 : BitVec 32 := Scalar.muli v8 c1_i32_451
  let v708 : BitVec 32 := Scalar.addi v706 v707
  v708.toNat
def k0_off15 (d0 : Dev nD) : Fin 2 → Nat :=
  let c0_470 : Index := 0#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_10 v5
  let c4096_i32_11 : BitVec 32 := 4096#32
  let v26 : BitVec 32 := Scalar.muli v25 c4096_i32_11
  let c2_i32_21 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v40 : BitVec 32 := Scalar.muli c2_i32_21 v2
  let c1_i32_20 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v39 : BitVec 32 := Scalar.subi c1_i32_20 v18
  let v41 : BitVec 32 := Scalar.addi v40 v39
  let c1024_i32_22 : BitVec 32 := 1024#32
  let v42 : BitVec 32 := Scalar.muli v41 c1024_i32_22
  let v735 : BitVec 32 := Scalar.addi v26 v42
  let v736 : Index := Scalar.indexCast v735
  ![0, v736.toNat]
def k0_off16 (d0 : Dev nD) (c768_i32_61 : BitVec 32) : Fin 2 → Nat :=
  let c0_i32_534 : BitVec 32 := 0#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_10 v5
  let c4096_i32_11 : BitVec 32 := 4096#32
  let v26 : BitVec 32 := Scalar.muli v25 c4096_i32_11
  let c2_i32_18 : BitVec 32 := 2#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_17 v2
  let v36 : BitVec 32 := Scalar.muli c2_i32_18 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.addi v36 v18
  let c1024_i32_19 : BitVec 32 := 1024#32
  let v38 : BitVec 32 := Scalar.muli v37 c1024_i32_19
  let v122 : BitVec 32 := Scalar.addi v26 v38
  let v123 : BitVec 32 := Scalar.addi v122 c768_i32_61
  ![0, v123.toNat]
def k0_dev34 (d0 : Dev nD) : Nat :=
  let c0_i32_531 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_530 : BitVec 32 := 8#32
  let v812 : BitVec 32 := Scalar.muli v2 c8_i32_530
  let v813 : BitVec 32 := Scalar.addi c0_i32_531 v812
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_532 : BitVec 32 := 4#32
  let v814 : BitVec 32 := Scalar.muli v5 c4_i32_532
  let v815 : BitVec 32 := Scalar.addi v813 v814
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_533 : BitVec 32 := 1#32
  let v816 : BitVec 32 := Scalar.muli v21 c1_i32_533
  let v817 : BitVec 32 := Scalar.addi v815 v816
  v817.toNat
def k0_dev35 (d0 : Dev nD) : Nat :=
  let c0_i32_547 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_546 : BitVec 32 := 8#32
  let v834 : BitVec 32 := Scalar.muli v2 c8_i32_546
  let v835 : BitVec 32 := Scalar.addi c0_i32_547 v834
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_548 : BitVec 32 := 4#32
  let v836 : BitVec 32 := Scalar.muli v5 c4_i32_548
  let v837 : BitVec 32 := Scalar.addi v835 v836
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v19 : BitVec 32 := Scalar.subi v8 v18
  let c1_i32_7 : BitVec 32 := 1#32
  let v20 : BitVec 32 := Scalar.subi c1_i32_7 v18
  let v21 : BitVec 32 := Scalar.addi v19 v20
  let c1_i32_549 : BitVec 32 := 1#32
  let v838 : BitVec 32 := Scalar.muli v21 c1_i32_549
  let v839 : BitVec 32 := Scalar.addi v837 v838
  v839.toNat
def k0_off17 (d0 : Dev nD) : Fin 2 → Nat :=
  let c0_552 : Index := 0#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_10 v5
  let c4096_i32_11 : BitVec 32 := 4096#32
  let v26 : BitVec 32 := Scalar.muli v25 c4096_i32_11
  let c2_i32_18 : BitVec 32 := 2#32
  let c1_i32_17 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v35 : BitVec 32 := Scalar.subi c1_i32_17 v2
  let v36 : BitVec 32 := Scalar.muli c2_i32_18 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v37 : BitVec 32 := Scalar.addi v36 v18
  let c1024_i32_19 : BitVec 32 := 1024#32
  let v38 : BitVec 32 := Scalar.muli v37 c1024_i32_19
  let v846 : BitVec 32 := Scalar.addi v26 v38
  let v847 : Index := Scalar.indexCast v846
  ![0, v847.toNat]
def k0_off18 (d0 : Dev nD) : Fin 2 → Nat :=
  let c0_571 : Index := 0#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_10 v5
  let c4096_i32_11 : BitVec 32 := 4096#32
  let v26 : BitVec 32 := Scalar.muli v25 c4096_i32_11
  let c2_i32_15 : BitVec 32 := 2#32
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v30 : BitVec 32 := Scalar.subi c1_i32_13 v2
  let v32 : BitVec 32 := Scalar.muli c2_i32_15 v30
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_14 v18
  let v33 : BitVec 32 := Scalar.addi v32 v31
  let c1024_i32_16 : BitVec 32 := 1024#32
  let v34 : BitVec 32 := Scalar.muli v33 c1024_i32_16
  let v873 : BitVec 32 := Scalar.addi v26 v34
  let c768_i32_570 : BitVec 32 := 768#32
  let v874 : BitVec 32 := Scalar.addi v873 c768_i32_570
  let v875 : Index := Scalar.indexCast v874
  ![0, v875.toNat]
def k0_off19 (d0 : Dev nD) : Fin 2 → Nat :=
  let c0_598 : Index := 0#32
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v25 : BitVec 32 := Scalar.subi c1_i32_10 v5
  let c4096_i32_11 : BitVec 32 := 4096#32
  let v26 : BitVec 32 := Scalar.muli v25 c4096_i32_11
  let c2_i32_15 : BitVec 32 := 2#32
  let c1_i32_13 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v30 : BitVec 32 := Scalar.subi c1_i32_13 v2
  let v32 : BitVec 32 := Scalar.muli c2_i32_15 v30
  let c1_i32_14 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v8 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v31 : BitVec 32 := Scalar.subi c1_i32_14 v18
  let v33 : BitVec 32 := Scalar.addi v32 v31
  let c1024_i32_16 : BitVec 32 := 1024#32
  let v34 : BitVec 32 := Scalar.muli v33 c1024_i32_16
  let v911 : BitVec 32 := Scalar.addi v26 v34
  let c384_i32_597 : BitVec 32 := 384#32
  let v912 : BitVec 32 := Scalar.addi v911 c384_i32_597
  let v913 : Index := Scalar.indexCast v912
  ![0, v913.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256x8192 : Shape := ⟨2, ![256, 8192]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x8192, .f32⟩
  | .hbm, ⟨2, _⟩ => ⟨S256x8192, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x8192, .f32⟩
  | .hbm, ⟨7, _⟩ => ⟨S256x8192, .f32⟩
  | .hbm, ⟨8, _⟩ => ⟨S256x8192, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x8192, .f32⟩
  | .hbm, ⟨13, _⟩ => ⟨S256x8192, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.KernelIdeal.Mesh.lean ====
/-
# The copies of the kernel: who sends which columns to whom

The devices form a 2 × 2 × 4 mesh; device `c = 8 x + 4 y + z`. Each device computes half of the exponentials (the
4096 columns of its `y`) and receives the other half in 32 copies of 128 columns each, from three neighbours: the
device with the other `y` (copies 0–10), the device with the other `x` (copies 11–21), and the device whose `z` has the
other low bit (copies 22–31). This module names the neighbours, the columns each copy carries, the semaphores it
completes on, and from which device the exponentials in each block of 128 columns come.
-/
module

public import proofs.«01_k».proof.Proof.Gen.KernelIdeal
public import proofs.«01_k».proof.Proof.Gen.KernelIdeal.Launch
public import Idealize.ShloMosaic.Lib.Pipeline.Launch
public import Idealize.ShloMosaic.Lib.Pipeline.Kit

@[expose] public section

set_option maxRecDepth 100000

noncomputable section

namespace Cert.KernelIdeal.Soft

open Cert.KernelIdeal Cert.KernelIdeal.Gen
open Idealize.ShloMosaic Idealize.ShloMosaic.TcCoe

/-! ## The neighbours -/

/-- The device with the other `y`. -/
def yp (c : Dev nD) : Dev nD := ⟨c.val ^^^ 4, by revert c; decide⟩
/-- The device with the other `x`. -/
def xn (c : Dev nD) : Dev nD := ⟨c.val ^^^ 8, by revert c; decide⟩
/-- The device whose `z` differs in its low bit. -/
def zt (c : Dev nD) : Dev nD := ⟨c.val ^^^ 1, by revert c; decide⟩

/-- The names of the 32 copies each device sends (and of the 32 it receives). -/
abbrev I : Type := Fin 32

/-- Which neighbour copy `i` goes to: 0 for the other `y`, 1 for the other `x`, 2 for the other `z`. -/
def dir (i : I) : Fin 3 := if i.val < 11 then 0 else if i.val < 22 then 1 else 2
/-- The neighbour in each of the three directions. -/
def nb (d : Fin 3) (c : Dev nD) : Dev nD := match d with | 0 => yp c | 1 => xn c | 2 => zt c
/-- The neighbour copy `i` goes to, and comes from. -/
abbrev peer (i : I) (c : Dev nD) : Dev nD := nb (dir i) c

/-- A neighbour's neighbour in the same direction is the device itself. -/
theorem nb_nb (d : Fin 3) (c : Dev nD) : nb d (nb d c) = c := by revert d c; decide
/-- The device that copy `i` goes to sends its own copy `i` back. -/
theorem peer_peer (i : I) (c : Dev nD) : peer i (peer i c) = c := nb_nb _ _

/-- Each direction as a permutation of the devices. -/
def swap (d : Fin 3) : Dev nD ≃ Dev nD := ⟨nb d, nb d, nb_nb d, nb_nb d⟩

/-! ## The blocks of 128 columns -/

/-- The first block of the half a device computes. -/
def own (c : Dev nD) : ℕ := 32 * ((c.val / 4) % 2)
/-- The first block of the half it receives. -/
def oth (c : Dev nD) : ℕ := 32 * (1 - (c.val / 4) % 2)
/-- The four quarters of a half (8 blocks each) as a device names them: its own, the opposite one, the one of the other
    `x`, the one of the other `z`. -/
def quar (c : Dev nD) (a : Fin 4) : ℕ := match a with
  | 0 => 2 * (c.val / 8) + c.val % 2
  | 1 => 3 - (2 * (c.val / 8) + c.val % 2)
  | 2 => 2 * (1 - c.val / 8) + c.val % 2
  | 3 => 2 * (c.val / 8) + (1 - c.val % 2)

/-- The block of columns device `c` sends in copy `i` (to the same block of its neighbour). -/
def chunk (i : I) (c : Dev nD) : ℕ :=
  if i.val < 8 then own c + 8 * quar c 0 + i.val
  else if i.val < 11 then own c + 8 * quar c 1 + (i.val - 8)
  else if i.val < 19 then oth c + 8 * quar c 0 + (i.val - 11)
  else if i.val < 22 then oth c + 8 * quar c 3 + 3 + (i.val - 19)
  else if i.val < 30 then oth c + 8 * quar c 0 + (i.val - 22)
  else oth c + 8 * quar c 2 + 6 + (i.val - 30)

/-- The block of columns copy `i` fills on device `c`. -/
abbrev rch (i : I) (c : Dev nD) : ℕ := chunk i (peer i c)

/-- The copy by which the block that copy `i ≥ 11` sends on had arrived. -/
def src (i : I) : I :=
  if h : i.val < 11 then i
  else if h : i.val < 19 then ⟨i.val - 11, by omega⟩
  else if h : i.val < 22 then ⟨25 + (i.val - 19), by omega⟩
  else if h : i.val < 30 then ⟨i.val - 22, by omega⟩
  else ⟨17 + (i.val - 30), by omega⟩

/-- The result has 64 blocks. -/
theorem chunk_lt (i : I) (c : Dev nD) : chunk i c < 64 := by revert i c; decide +kernel
/-- What copy `i ≥ 11` sends on arrived by copy `src i`. -/
theorem chunk_src (i : I) (c : Dev nD) (h : 11 ≤ i.val) : chunk i c = rch (src i) c := by revert i c; decide +kernel
/-- Distinct copies fill distinct blocks, -/
theorem rch_inj (c : Dev nD) (i j : I) (h : rch i c = rch j c) : i = j := by revert i j c; decide +kernel
/-- all of the half a device receives: -/
theorem rch_oth (c : Dev nD) (i : I) : oth c ≤ rch i c ∧ rch i c < oth c + 32 := by revert i c; decide +kernel
/-- and every block of that half is filled by some copy, -/
theorem rch_surj (c : Dev nD) (j : Fin 64) (h : oth c ≤ j.val ∧ j.val < oth c + 32) : ∃ i, rch i c = j.val := by revert j c; decide +kernel
/-- the two halves together being everything. -/
theorem own_or_oth (c : Dev nD) : own c = 0 ∧ oth c = 32 ∨ own c = 32 ∧ oth c = 0 := by revert c; decide

/-! ## Where the exponentials come from -/

/-- The device that computed block `j` of device `c`'s result. -/
def org (c : Dev nD) (j : ℕ) : Dev nD :=
  if own c ≤ j ∧ j < own c + 32 then c
  else if (j % 32) / 8 = quar c 0 then yp c
  else if (j % 32) / 8 = quar c 2 then yp (xn c)
  else if (j % 32) / 8 = quar c 3 then yp (zt c)
  else if j % 8 < 3 then yp c
  else yp (xn (zt c))

/-- A copy carries what its sender holds to the same place of its receiver: the origin is the same on both. -/
theorem org_peer (i : I) (c : Dev nD) : org (peer i c) (chunk i c) = org c (chunk i c) := by revert i c; decide +kernel
/-- A device computed the blocks of its own half. -/
theorem org_own (c : Dev nD) (j : ℕ) (h : own c ≤ j ∧ j < own c + 32) : org c j = c := if_pos h
/-- The origin of a block has that block in its own half. -/
theorem own_org (c : Dev nD) (j : Fin 64) : own (org c j.val) = 32 * (j.val / 32) := by revert j c; decide +kernel

/-! ## The semaphores -/

/-- The semaphore on which copy `i` completes at its sender. -/
def sendS (i : I) : DmaSem sig := ⟨if i.val < 11 then 3 + i.val else if i.val < 22 then 25 + (i.val - 11) else 47 + (i.val - 22), by revert i; decide⟩
/-- The semaphore on which copy `i` completes at its receiver. -/
def recvS (i : I) : DmaSem sig := ⟨if i.val < 11 then 14 + i.val else if i.val < 22 then 36 + (i.val - 11) else 57 + (i.val - 22), by revert i; decide⟩
/-- The barrier semaphore. -/
abbrev barS : Sem sig := (SemArray.scalar (sig.barrier 0 rfl) : Sems sig S_).sem

/-- What a semaphore is for: the barrier (`none`), or a copy at its sender or its receiver. -/
abbrev CK : Type := Option (Bool × I)

/-- The semaphore of each purpose. -/
def csem : CK → SemLoc sig
  | none => .reg barS
  | some (false, i) => .dma (sendS i)
  | some (true, i) => .dma (recvS i)

/-- The purpose of each semaphore; `none` for the staging semaphores. -/
def kind : SemLoc sig → Option CK
  | .reg _ => some none
  | .dma q =>
    if q.val < 3 then none
    else if h : q.val < 14 then some (some (false, ⟨q.val - 3, by omega⟩))
    else if h : q.val < 25 then some (some (true, ⟨q.val - 14, by omega⟩))
    else if h : q.val < 36 then some (some (false, ⟨11 + (q.val - 25), by omega⟩))
    else if h : q.val < 47 then some (some (true, ⟨11 + (q.val - 36), by omega⟩))
    else if h : q.val < 57 then some (some (false, ⟨22 + (q.val - 47), by omega⟩))
    else if h : q.val < 67 then some (some (true, ⟨22 + (q.val - 57), by omega⟩))
    else none

/-- The purpose of a copy's sending semaphore, -/
theorem kind_send (i : I) : kind (.dma (sendS i)) = some (some (false, i)) := by revert i; decide +kernel
/-- of its receiving semaphore, -/
theorem kind_recv (i : I) : kind (.dma (recvS i)) = some (some (true, i)) := by revert i; decide +kernel
/-- and of any semaphore that has one. -/
theorem kind_csem (k : CK) : kind (csem k) = some k := by revert k; decide +kernel
/-- Distinct purposes have distinct semaphores. -/
theorem csem_inj {k k' : CK} (h : csem k = csem k') : k = k' := by
  have := (kind_csem k).symm.trans ((congrArg kind h).trans (kind_csem k')); exact Option.some.inj this

/-! ## The kernel's device numbers and offsets -/

/-- The columns that copies 0 to 7 are read from and written to. -/
theorem off3 (c : Dev nD) (r : Fin 8) : k0_off3 c (BitVec.ofNat 32 (128 * r.val)) = ![0, 128 * chunk ⟨r.val, by omega⟩ c] := by revert c r; decide +kernel
/-- Copies 8 to 10. -/
theorem off6 (c : Dev nD) (r : Fin 3) : k0_off6 c (BitVec.ofNat 32 (128 * r.val)) = ![0, 128 * chunk ⟨8 + r.val, by omega⟩ c] := by revert c r; decide +kernel
/-- Copies 11 to 18. -/
theorem off11x (c : Dev nD) (r : Fin 8) : k0_off11 c (BitVec.ofNat 32 (128 * r.val)) = ![0, 128 * chunk ⟨11 + r.val, by omega⟩ c] := by revert c r; decide +kernel
/-- Copies 22 to 29, which send the same blocks. -/
theorem off11z (c : Dev nD) (r : Fin 8) : k0_off11 c (BitVec.ofNat 32 (128 * r.val)) = ![0, 128 * chunk ⟨22 + r.val, by omega⟩ c] := by revert c r; decide +kernel
/-- Copies 19 to 21. -/
theorem off14 (c : Dev nD) (r : Fin 3) : k0_off14 c (BitVec.ofNat 32 (384 + 128 * r.val)) = ![0, 128 * chunk ⟨19 + r.val, by omega⟩ c] := by revert c r; decide +kernel
/-- Copies 30 and 31. -/
theorem off16 (c : Dev nD) (r : Fin 2) : k0_off16 c (BitVec.ofNat 32 (768 + 128 * r.val)) = ![0, 128 * chunk ⟨30 + r.val, by omega⟩ c] := by revert c r; decide +kernel

/-- Where the first quarter that a device computes is read from `W`. -/
theorem off1 (c : Dev nD) : k0_off1 c = ![0, 1024 * quar c 0] := by revert c; decide +kernel
/-- The opposite quarter of `W`, -/
theorem off4 (c : Dev nD) : k0_off4 c = ![0, 1024 * quar c 1] := by revert c; decide +kernel
/-- the quarter of the other `x`, -/
theorem off7 (c : Dev nD) : k0_off7 c = ![0, 1024 * quar c 2] := by revert c; decide +kernel
/-- and that of the other `z`. -/
theorem off9 (c : Dev nD) : k0_off9 c = ![0, 1024 * quar c 3] := by revert c; decide +kernel
/-- Where the first quarter is stored, -/
theorem off2 (c : Dev nD) : k0_off2 c = ![0, 128 * (own c + 8 * quar c 0)] := by revert c; decide +kernel
/-- where the opposite one, -/
theorem off5 (c : Dev nD) : k0_off5 c = ![0, 128 * (own c + 8 * quar c 1)] := by revert c; decide +kernel
/-- where that of the other `x`, -/
theorem off8 (c : Dev nD) : k0_off8 c = ![0, 128 * (own c + 8 * quar c 2)] := by revert c; decide +kernel
/-- and where that of the other `z`. -/
theorem off10 (c : Dev nD) : k0_off10 c = ![0, 128 * (own c + 8 * quar c 3)] := by revert c; decide +kernel

/-- Where the received blocks are read to be summed: the stretch from copy 0's block on, -/
theorem off12 (c : Dev nD) : k0_off12 c = ![0, 128 * rch 0 c] := by revert c; decide +kernel
/-- The stretch from copy 8 on, -/
theorem off13 (c : Dev nD) : k0_off13 c = ![0, 128 * rch 8 c] := by revert c; decide +kernel
/-- from copy 22, -/
theorem off15 (c : Dev nD) : k0_off15 c = ![0, 128 * rch 22 c] := by revert c; decide +kernel
/-- from copy 11, -/
theorem off17 (c : Dev nD) : k0_off17 c = ![0, 128 * rch 11 c] := by revert c; decide +kernel
/-- from copy 30, -/
theorem off18 (c : Dev nD) : k0_off18 c = ![0, 128 * rch 30 c] := by revert c; decide +kernel
/-- and from copy 19. -/
theorem off19 (c : Dev nD) : k0_off19 c = ![0, 128 * rch 19 c] := by revert c; decide +kernel

end Cert.KernelIdeal.Soft

end
-- ==== Proof.KernelIdeal.Proto.lean ====
/-
# The protocol of the kernel, and what a device holds between two of its steps

Each device has 65 semaphores the copies use: the barrier, and for each of the 32 copies one at the sender and one at
the receiver. The barrier of a device is raised once by each of its three neighbours; with that the neighbour hands over
the blocks of its result that this device's copies fill. A copy hands its receiver the block with its contents, and
hands the sender the part of the block it was read from back.

Between two steps a device holds a number of resources, one for each copy not yet sent, received, or returned; `St`
keeps the account, `prog` lists the steps in the kernel's order.
-/
module

public import proofs.«01_k».proof.Proof.KernelIdeal.Mesh
public import proofs.«01_k».proof.Proof.Gen.KernelIdeal.Skeleton
public import Idealize.ShloMosaic.Lib.Tactic
public import Idealize.ShloMosaic.Lib.ValueIdxCore

@[expose] public section

set_option maxRecDepth 100000

noncomputable section

namespace Cert.KernelIdeal.Soft

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-! ## The ghost state: the pipeline's own copy, and the copies' (three duties a cell at most) -/

/-- The ghost state of the copies' rounds, -/
abbrev UB : Type := URounds (GSem nD τ sig) (Fin 3)
/-- and, with it, the pipeline's own. -/
abbrev UU : Type := UR sig nD τ × UB

local notation "𝕄" => MT nD τ sig Unit (Elt F) ℕ UU ℕ

/-- Where the pipeline's lies in it, -/
abbrev EP : Emb (UR sig nD τ) (MT nD τ sig Unit (Elt F) ℕ UU ℕ) := embL
/-- and where the copies' does. -/
abbrev ER : Emb UB (MT nD τ sig Unit (Elt F) ℕ UU ℕ) := embR

variable (m : (ℓ : Loc nD τ sig) → Buf (Elt F) ℓ)

/-! ## Memrefs, cells, contents -/

/-- The staging buffer of `x`, whole, -/
abbrev xM : Memref sig .tc .vmem S256x512 .f32 := Memref.whole cc0_stg0_0
/-- that of `W`, -/
abbrev wM : Memref sig .tc .vmem S512x4096 .f32 := Memref.whole cc0_stg1_0
/-- and that of the result. -/
abbrev oM : Memref sig .tc .vmem S256x8192 .f32 := Memref.whole cc0_stg2_0
/-- The contents of the result's buffer. -/
abbrev OutC (F : FTy → Type) : Type := (cc0_stg2_0 : Ref sig .tc).ty.Contents (Elt F)
/-- The result's buffer on device `c`. -/
abbrev oL (c : Dev nD) : Loc nD τ sig := (c : Thread nD τ).loc cc0_stg2_0

/-- A device's semaphore of each purpose, -/
abbrev cell (c : Dev nD) (k : CK) : GSem nD τ sig := ((c : Thread nD τ), csem k)
/-- its barrier, -/
abbrev barCell (c : Dev nD) : GSem nD τ sig := ((c : Thread nD τ), .reg barS)
/-- copy `i`'s at its sender, -/
abbrev sendCell (c : Dev nD) (i : I) : GSem nD τ sig := ((c : Thread nD τ), .dma (sendS i))
/-- and at its receiver. -/
abbrev recvCell (c : Dev nD) (i : I) : GSem nD τ sig := ((c : Thread nD τ), .dma (recvS i))

/-- The rectangle of `n` columns from column `a`. -/
abbrev blk (a n : ℕ) (h : ∀ b, (![0, a] : Fin 2 → ℕ) b + (![256, n] : Fin 2 → ℕ) b ≤ S256x8192.size b) : Rect S256x8192 :=
  Rect.unit (s := S256x8192) ![0, a] ![256, n] h
/-- Such a rectangle lies in the result. -/
theorem blk_inb {a n : ℕ} (h : a + n ≤ 8192) : ∀ b, (![0, a] : Fin 2 → ℕ) b + (![256, n] : Fin 2 → ℕ) b ≤ S256x8192.size b := by
  intro b; fin_cases b
  · exact Nat.le_refl _
  · exact h

/-- The units a copy of 128 columns counts. -/
abbrev N : ℕ := (oM.slice (Rect.unit (s := S256x8192) ![0, 0] S256x128.size (blk_inb (a := 0) (n := 128) (by decide))) (fun _ => rfl)).view.dmaCredit
/-- A copy counts at least one unit. -/
theorem N_pos : 0 < N := View.dmaCredit_pos _ (by decide)

/-- The columns from `a` to `a + n` of the result. -/
def cols (a n : ℕ) : Finset S256x8192.Idx := Finset.univ.filter fun i => a ≤ (i 1).val ∧ (i 1).val < a + n
/-- Which elements lie in a range of columns. -/
theorem mem_cols {a n : ℕ} {i : S256x8192.Idx} : i ∈ cols a n ↔ a ≤ (i 1).val ∧ (i 1).val < a + n := by
  unfold cols; rw [Finset.mem_filter]; exact ⟨fun h => h.2, fun h => ⟨Finset.mem_univ _, h⟩⟩
/-- Ranges that do not overlap are disjoint. -/
theorem cols_disjoint {a n b k : ℕ} (h : a + n ≤ b ∨ b + k ≤ a) : Disjoint (cols a n) (cols b k) :=
  Finset.disjoint_left.mpr fun i hi hj => by rw [mem_cols] at hi hj; omega
/-- Two ranges, one after the other, make one. -/
theorem cols_union {a n k : ℕ} : cols a n ∪ cols (a + n) k = cols a (n + k) := by
  ext i; rw [Finset.mem_union, mem_cols, mem_cols, mem_cols]; omega
/-- All columns. -/
theorem cols_all : cols 0 8192 = Finset.univ := by
  ext i; rw [mem_cols]; exact ⟨fun _ => Finset.mem_univ _, fun _ => ⟨Nat.zero_le _, by rw [Nat.zero_add]; exact (i 1).isLt⟩⟩

/-- The elements under a rectangle of all rows and `n` columns are those columns. -/
theorem rect_set {a n : ℕ} {off sz : Fin 2 → ℕ} (ho : off = ![0, a]) (hs : sz = ![256, n]) (inb) :
    (Rect.unit (s := S256x8192) off sz inb).set = cols a n := by
  subst ho; subst hs
  ext i; rw [Rect.mem_set_unit, mem_cols]
  constructor
  · intro h; exact h 1
  · intro h b; fin_cases b
    · exact ⟨Nat.zero_le _, by show (i 0).val < 0 + 256; have := (i 0).isLt; simpa using this⟩
    · exact h

/-- The operand `x` as device `c` has it. -/
def xstg (c : Dev nD) : (cc0_stg0_0 : Ref sig .tc).ty.Contents (Elt F) :=
  (win0_0.blk (0 : Fin 1)).view.read (Elt F) (m ((c : Thread nD τ).loc main_arg0))
/-- The half of `W` device `c` works on. -/
def wstg (c : Dev nD) : (cc0_stg1_0 : Ref sig .tc).ty.Contents (Elt F) :=
  (win0_1.blk (0 : Fin 1)).view.read (Elt F) (m ((c : Thread nD τ).loc main_arg1))

/-- A quarter's columns lie in the half of `W`. -/
theorem quarter_inb (q : Fin 4) : ∀ b, (![0, 1024 * q.val] : Fin 2 → ℕ) b + S512x1024.size b ≤ S512x4096.size b := by revert q; decide
/-- A quarter of the columns of `W`. -/
def wq (c : Dev nD) (q : Fin 4) : Vec F S512x1024 .f32 :=
  wM.view.readAt (Elt F) (Rect.unit (s := S512x4096) ![0, 1024 * q.val] S512x1024.size (quarter_inb q)).toLoadRect (wstg m c)
/-- The exponentials device `c` computes from it. -/
def eq4 (c : Dev nD) (q : Fin 4) : FVec F S256x1024 .f32 := k0_pay2 (xstg m c) (wq m c q)
/-- All the exponentials device `c` computes, at the columns modulo 4096. -/
def eAt (c : Dev nD) : OutC F := fun i =>
  eq4 m c ⟨((i 1).val / 1024) % 4, Nat.mod_lt _ (by decide)⟩ (ix2 (i 0) ⟨(i 1).val % 1024, Nat.mod_lt _ (by decide)⟩)
/-- The exponentials in device `c`'s result once all copies have arrived. -/
def G (c : Dev nD) : OutC F := fun i => eAt m (org c ((i 1).val / 128)) i

/-- A share `q` of block `j` of device `c`'s result at the contents `f`. -/
def cp (c : Dev nD) (j : ℕ) (q : PosShare TreeShare) (f : OutC F) : sProp 𝕄 := oL c ↦[cols (128 * j) 128]{q} f

omit [FloatOps F] in
/-- A piece of memory may be handed over by a semaphore. -/
instance cp_storable (c : Dev nD) (j : ℕ) (q) (f : OutC F) : BI.Storable (upEmb : UEmb _ 𝕄) (cp (F := F) c j q f) := by unfold cp; infer_instance

/-- The shares of a received block: what a copy to the other `x` reads (1), what a copy to the other `z` reads (2), and
    what is kept (3). A device's own block is read whole (0). -/
def shr (a : Fin 4) : PosShare TreeShare := match a with
  | 0 => fullShare
  | 1 => (fullShare : PosShare TreeShare).left
  | 2 => (fullShare : PosShare TreeShare).right.left
  | 3 => (fullShare : PosShare TreeShare).right.right

/-- A piece of the result: an own block (0) or one of the three shares of a received block. -/
abbrev P : Type := Fin 4 × I
/-- The piece copy `j` is read from. -/
def srcP (j : I) : P := match dir j with | 0 => (0, j) | 1 => (1, src j) | 2 => (2, src j)
/-- A piece as an assertion. -/
def Pc (c : Dev nD) (p : P) : sProp 𝕄 := cp c (if p.1 = 0 then chunk p.2 c else rch p.2 c) (shr p.1) (G m c)

/-- The piece a copy is read from is the block that it carries. -/
theorem srcP_block (j : I) (c : Dev nD) : (if (srcP j).1 = 0 then chunk (srcP j).2 c else rch (srcP j).2 c) = chunk j c := by
  revert j c; decide +kernel

/-- What copy `j` is read from, by its block. -/
theorem Pc_srcP (c : Dev nD) (j : I) : Pc m c (srcP j) = cp c (chunk j c) (shr (srcP j).1) (G m c) := by
  unfold Pc; rw [srcP_block]

/-! ## Held resources -/

/-- The resources `Φ a` of the `a` that `f` marks. -/
def held {A : Type} [Fintype A] [DecidableEq A] (f : A → Bool) (Φ : A → sProp 𝕄) : sProp 𝕄 := bigSep (Finset.univ.filter fun a => f a = true) Φ

/-- `f` with the mark of `a` set to `b`. -/
def upd {A : Type} [DecidableEq A] (f : A → Bool) (a : A) (b : Bool) : A → Bool := fun x => if x = a then b else f x

omit [FloatOps F] in
/-- One marked resource is taken out, -/
theorem held_take {A : Type} [Fintype A] [DecidableEq A] {f : A → Bool} {a : A} (h : f a = true) (Φ : A → sProp 𝕄) :
    held f Φ = iprop(Φ a ∗ held (upd f a false) Φ) := by
  unfold held
  rw [bigSep_erase (i := a) (Finset.mem_filter.mpr ⟨Finset.mem_univ _, h⟩)]
  congr 2
  ext x; simp only [Finset.mem_erase, Finset.mem_filter, Finset.mem_univ, true_and, upd]
  by_cases hx : x = a <;> simp [hx]

omit [FloatOps F] in
/-- or put back. -/
theorem held_put {A : Type} [Fintype A] [DecidableEq A] {f : A → Bool} {a : A} (h : f a = false) (Φ : A → sProp 𝕄) :
    held (upd f a true) Φ = iprop(Φ a ∗ held f Φ) := by
  rw [held_take (a := a) (by simp [upd])]
  congr 2
  funext x; by_cases hx : x = a <;> simp [upd, hx, h]

omit [FloatOps F] in
/-- All resources. -/
theorem held_all {A : Type} [Fintype A] [DecidableEq A] (Φ : A → sProp 𝕄) : held (fun _ => true) Φ = bigSep Finset.univ Φ := by
  unfold held; congr 1; ext x; simp

omit [FloatOps F] in
/-- One of a family of resources. -/
theorem at_univ {A : Type} [Fintype A] [DecidableEq A] (Φ : A → sProp 𝕄) (a : A) : (bigSep Finset.univ Φ : sProp 𝕄) ⊢ Φ a := bigSep_elim (Finset.mem_univ a)

/-- Marked resources split off by a set of marks. -/
theorem held_split {A : Type} [Fintype A] [DecidableEq A] {f : A → Bool} (S : Finset A) (h : ∀ a ∈ S, f a = true) (Φ : A → sProp 𝕄) :
    held f Φ = iprop(bigSep S Φ ∗ bigSep ((Finset.univ.filter fun a => f a = true) \ S) Φ) := by
  unfold held
  exact bigSep_sdiff_split fun a ha => Finset.mem_filter.mpr ⟨Finset.mem_univ _, h a ha⟩

/-! ## The schedule -/

/-- What a device's neighbour in direction `d` hands it at the barrier: the blocks its copies fill there. -/
def barPay (c : Dev nD) (d : Fin 3) : sProp 𝕄 :=
  bigSep (Finset.univ.filter fun i : I => dir i = d) fun i => iprop(∃ f : OutC F, cp (peer i c) (chunk i c) fullShare f)

/-- What the units on a cell hand over. -/
def pay (c : Dev nD) (k : CK) (d : Fin 3) : sProp 𝕄 := match k with
  | none => barPay c d
  | some (false, i) => cp c (chunk i c) (shr (srcP i).1) (G m c)
  | some (true, i) => cp c (rch i c) fullShare (G m c)

/-- What a cell hands over may be handed over by a semaphore. -/
instance pay_storable (c : Dev nD) (k : CK) (d : Fin 3) : BI.Storable (upEmb : UEmb _ 𝕄) (pay m c k d) := by
  rcases k with _ | ⟨_ | _, i⟩ <;> unfold pay <;> try unfold barPay
  all_goals infer_instance

/-- Who contributes to a cell. -/
def dut (k : CK) : Finset (Fin 3) := match k with | none => Finset.univ | some _ => {0}
/-- How much. -/
def amt (k : CK) : ℕ := match k with | none => 1 | some _ => N

/-- The schedule: each cell has one round, with the contributors, amounts and payloads above. -/
def Rd : Rounds.Schedule (GSem nD τ sig) (Fin 3) 𝕄 where
  duties g r := if r = 0 ∧ g.1.2 = .tc then (kind g.2).elim ∅ dut else ∅
  unitless _ := False
  amount g _ _ := (kind g.2).elim 1 amt
  payload g _ d := (kind g.2).elim iprop(emp) fun k => pay m g.1.1 k d
  amount_pos g r d _ := by
    rcases h : kind g.2 with _ | _ | k
    · exact Nat.one_pos
    · exact Nat.one_pos
    · exact N_pos

/-- Its payloads may be handed over by a semaphore. -/
instance Rd_storable (g : GSem nD τ sig) (r : ℕ) (d : Fin 3) : BI.Storable (upEmb : UEmb _ 𝕄) ((Rd (F := F) m).payload g r d) := by
  show BI.Storable upEmb ((kind g.2).elim iprop(emp) fun k => pay m g.1.1 k d)
  rcases kind g.2 with _ | k
  · show BI.Storable upEmb (iprop(emp) : sProp 𝕄); infer_instance
  · show BI.Storable upEmb (pay m g.1.1 k d); infer_instance

/-- A cell's contributors, -/
theorem duties_cell (c : Dev nD) (k : CK) : (Rd (F := F) m).duties (cell c k) 0 = dut k := by
  show (if (0 : ℕ) = 0 ∧ (cell c k).1.2 = .tc then (kind (csem k)).elim ∅ dut else ∅) = _
  rw [kind_csem, if_pos ⟨rfl, rfl⟩]; rfl
/-- which it has in its first round only; -/
theorem duties_later (g : GSem nD τ sig) : ∀ r, 1 ≤ r → (Rd (F := F) m).duties g r = ∅ := fun r hr => if_neg fun h => by omega
/-- the amount of each, -/
theorem amount_cell (c : Dev nD) (k : CK) (d : Fin 3) : (Rd (F := F) m).amount (cell c k) 0 d = amt k := by
  show (kind (csem k)).elim 1 amt = _; rw [kind_csem]; rfl
/-- what it hands over, -/
theorem payload_cell (c : Dev nD) (k : CK) (d : Fin 3) : (Rd (F := F) m).payload (cell c k) 0 d = pay m c k d := by
  show (kind (csem k)).elim iprop(emp) (fun k => pay m c k d) = _; rw [kind_csem]; rfl
/-- and how much all of them bring. -/
theorem expect_cell (c : Dev nD) (k : CK) : (Rd (F := F) m).expect (cell c k) 0 = (dut k).card * amt k := by
  unfold Schedule.expect Schedule.amountOf
  rw [duties_cell, Finset.sum_congr rfl fun d _ => amount_cell m c k d, Finset.sum_const, smul_eq_mul]
/-- What a wait for a copy gets: all that the cell's round hands over. -/
theorem rest_cell (c : Dev nD) (b : Bool) (i : I) :
    bigSep ((Rd (F := F) m).duties (cell c (some (b, i))) 0 \ ∅) (fun d => (Rd (F := F) m).payload (cell c (some (b, i))) 0 d) = pay m c (some (b, i)) 0 := by
  rw [Finset.sdiff_empty, duties_cell]; show bigSep {0} _ = _; rw [bigSep_singleton, payload_cell]

/-! ## What a device owes, and the levels of the cells -/

/-- A receive cell's level: a device waits on it only when all it still owes lies higher. -/
def rlev (i : I) : ℕ := if i.val < 11 then 2 else if i.val < 19 then 3 else if i.val < 22 then 4 else if i.val < 30 then 3 else 4

/-- The receive cells lie above the barrier. -/
theorem rlev_pos (i : I) : 1 < rlev i := by revert i; decide

/-- What is owed for the copies of a list still to be sent. -/
def debt (c : Dev nD) : List I → CellTallies nD τ sig Unit
  | [] => 0
  | i :: l => debt c l + tallyAt (recvCell (peer i c) i) () N

/-- The copies in the order they are sent. -/
def sendOrder : List I := [0, 1, 2, 3, 4, 5, 6, 7, 8, 9, 10, 11, 22, 12, 23, 13, 24, 14, 25, 15, 26, 16, 27, 17, 28, 18, 29, 19, 20, 21, 30, 31]

/-- What a device owes at launch: its copies, and a unit to each neighbour's barrier. -/
def O₀ (c : Dev nD) : CellTallies nD τ sig Unit :=
  ((debt c sendOrder + tallyAt (barCell (zt c)) () 1) + tallyAt (barCell (xn c)) () 1) + tallyAt (barCell (yp c)) () 1

/-- The cells have one label, -/
def L (g : GSem nD τ sig) : Finset Unit := if g.1.2 = .tc then {()} else ∅
/-- and a level by their purpose: below all others the sending cells, then the barrier, then the receiving cells. -/
def klev (k : CK) : ℕ := match k with | none => 1 | some (false, _) => 0 | some (true, i) => rlev i
/-- The level of any semaphore. -/
def lv (g : GSem nD τ sig) (_ : Unit) : ℕ := (kind g.2).elim 0 klev
/-- Only the cells of the main threads have the label, -/
theorem L_of_ne (g : GSem nD τ sig) (h : g.1.2 ≠ .tc) : L g = ∅ := if_neg h
/-- all of them. -/
theorem L_tc (c : Dev nD) (sm : SemLoc sig) : L ((c : Thread nD τ), sm) = {()} := if_pos rfl
/-- A cell's level is that of its purpose. -/
theorem lv_cell (c : Dev nD) (k : CK) (u : Unit) : lv (cell c k) u = klev k := by show (kind (csem k)).elim 0 klev = _; rw [kind_csem]; rfl

/-- What is owed for a list of copies is owed to their receive cells. -/
theorem debt_pos {c : Dev nD} {g : GSem nD τ sig} {u : Unit} : ∀ {l : List I}, 0 < debt c l g u → ∃ i ∈ l, g = recvCell (peer i c) i
  | [], h => absurd h (Nat.lt_irrefl 0)
  | i :: l, h => by
    unfold debt at h; rw [Pi.add_apply, Finsupp.add_apply, tallyAt_apply] at h
    by_cases hg : g = recvCell (peer i c) i
    · exact ⟨i, List.mem_cons_self, hg⟩
    · rw [if_neg (fun h' => hg h'.1), Nat.add_zero] at h
      obtain ⟨j, hj, e⟩ := debt_pos h
      exact ⟨j, List.mem_cons_of_mem _ hj, e⟩

omit [FloatOps F] in
/-- A cell may be waited on while copies that fill only cells of higher levels are owed. -/
theorem mayWait_debt (c : Dev nD) (sm : SemLoc sig) (n : ℕ) (l : List I) (hsm : lv ((c : Thread nD τ), sm) () = n) (hl : ∀ i ∈ l, n < rlev i) :
    (levAts L lv : sProp 𝕄) ⊢ MayWait (c : Thread nD τ) sm () (debt c l) :=
  MayOwe.of_cut (L := L) (lev := lv) n (fun p hp => by rw [Finset.mem_singleton.mp hp, L_tc]; exact Finset.mem_singleton_self _)
    (fun g u hg => by obtain ⟨i, _, rfl⟩ := debt_pos hg; rw [L_tc]; exact Finset.mem_singleton_self _)
    (fun p hp => by rw [Finset.mem_singleton.mp hp]; exact hsm.le)
    (fun g u hg => by
      obtain ⟨i, hi, rfl⟩ := debt_pos hg
      exact lt_of_lt_of_eq (hl i hi) (lv_cell (peer i c) (some (true, i)) u).symm)

/-- All that is owed at launch is owed to cells with a positive level. -/
theorem O₀_pos {c : Dev nD} {g : GSem nD τ sig} {u : Unit} (h : 0 < O₀ c g u) : ∃ d k, g = cell d k ∧ 0 < klev k := by
  unfold O₀ at h
  simp only [Pi.add_apply, Finsupp.add_apply, tallyAt_apply] at h
  by_cases h1 : g = barCell (yp c)
  · exact ⟨yp c, none, h1, Nat.one_pos⟩
  by_cases h2 : g = barCell (xn c)
  · exact ⟨xn c, none, h2, Nat.one_pos⟩
  by_cases h3 : g = barCell (zt c)
  · exact ⟨zt c, none, h3, Nat.one_pos⟩
  rw [if_neg (fun h : g = barCell (zt c) ∧ True => h3 h.1), if_neg (fun h : g = barCell (xn c) ∧ True => h2 h.1),
    if_neg (fun h : g = barCell (yp c) ∧ True => h1 h.1)] at h
  obtain ⟨i, _, e⟩ := debt_pos (c := c) (g := g) (u := u) (by simpa using h)
  exact ⟨peer i c, some (true, i), e, Nat.lt_of_lt_of_le Nat.one_pos (rlev_pos i).le⟩

omit [FloatOps F] in
/-- The staging copies are waited on whatever is owed. -/
theorem mayWait_stage (c : Dev nD) (q : DmaSem sig) (hq : kind (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, _⟩ := O₀_pos hg; rw [L_tc]; exact Finset.mem_singleton_self _)
      (fun p hp => by rw [Finset.mem_singleton.mp hp]; show (kind (.dma q)).elim 0 klev ≤ 0; rw [hq]; exact Nat.le_refl _)
      (fun g u hg => by obtain ⟨d, k, rfl, hk⟩ := O₀_pos hg; rw [lv_cell]; exact hk)
  · rw [MayWait_zero]; iintro -; iempintro

/-! ## The steps of a device in order, and the account of what it holds -/

inductive Act where
  | send (i : I)
  | own
  | recv (i : I)
  | ret (i : I)

/-- The steps in the kernel's order: the copies of the own blocks (those of the opposite quarter once it is computed);
    the received blocks sent on as they arrive; the remaining receipts; at last every copy's end at its sender. -/
def prog : List Act :=
  [.send 0, .send 1, .send 2, .send 3, .send 4, .send 5, .send 6, .send 7, .own, .send 8, .send 9, .send 10, .recv 0,
   .send 11, .send 22, .recv 1, .send 12, .send 23, .recv 2, .send 13, .send 24, .recv 3, .send 14, .send 25, .recv 4,
   .send 15, .send 26, .recv 5, .send 16, .send 27, .recv 6, .send 17, .send 28, .recv 7, .send 18, .send 29,
   .recv 8, .recv 9, .recv 10, .recv 22, .recv 23, .recv 24, .recv 25, .send 19, .recv 26, .send 20, .recv 27, .send 21,
   .recv 28, .recv 29, .recv 11, .recv 12, .recv 13, .recv 14, .recv 15, .recv 16, .recv 17, .send 30, .recv 18, .send 31,
   .recv 30, .recv 31, .recv 19, .recv 20, .recv 21] ++ (List.finRange 32).map .ret

/-- The account: the copies still to be sent (in order, and as marks), still to be received, sent and not yet returned;
    the pieces of the result held; the cells done with. -/
structure St where
  snd : List I
  tks : I → Bool
  rcv : I → Bool
  sent : I → Bool
  pcs : P → Bool
  cls : Bool × I → Bool

/-- What a step does to the account. -/
def step (s : St) : Act → St
  | .send j => { s with snd := s.snd.tail, tks := upd s.tks j false, sent := upd s.sent j true, pcs := upd s.pcs (srcP j) false }
  | .own => { s with pcs := upd (upd (upd s.pcs (0, 8) true) (0, 9) true) (0, 10) true }
  | .recv i => { s with rcv := upd s.rcv i false, pcs := upd (upd (upd s.pcs (1, i) true) (2, i) true) (3, i) true, cls := upd s.cls (true, i) true }
  | .ret i => { s with sent := upd s.sent i false, pcs := upd s.pcs (srcP i) true, cls := upd s.cls (false, i) true }

/-- At the start the device holds the eight blocks of its first quarter. -/
def st0 : St := ⟨sendOrder, fun _ => true, fun _ => true, fun _ => false, fun p => decide (p.1 = 0 ∧ p.2.val < 8), fun _ => false⟩
/-- The account before step `n`. -/
def stt (n : ℕ) : St := (prog.take n).foldl step st0

/-- What the account must say for a step to be possible. -/
def okA (s : St) : Act → Bool
  | .send j => s.snd.head? = some j && s.tks j && !s.sent j && s.pcs (srcP j)
  | .own => !s.pcs (0, 8) && !s.pcs (0, 9) && !s.pcs (0, 10)
  | .recv i => s.rcv i && !s.pcs (1, i) && !s.pcs (2, i) && !s.pcs (3, i) && !s.cls (true, i) && s.snd.all fun j => decide (rlev i < rlev j)
  | .ret i => s.sent i && !s.pcs (srcP i) && !s.cls (false, i) && s.snd.isEmpty

/-- Every step is possible when its turn comes. -/
theorem ok_all : ∀ n : Fin 97, (prog[n.val]?.map (okA (stt n.val))) = some true := by decide +kernel

/-- The same at a given step. -/
theorem ok_at {n : ℕ} {a : Act} (h : prog[n]? = some a) : okA (stt n) a = true := by
  have hn : n < 97 := by
    by_contra hn
    rw [List.getElem?_eq_none (by show 97 ≤ n; omega)] at h; cases h
  have := ok_all ⟨n, hn⟩
  rw [h] at this; exact Option.some.inj this

/-- The account after a step. -/
theorem stt_succ {n : ℕ} {a : Act} (h : prog[n]? = some a) : stt (n + 1) = step (stt n) a := by
  unfold stt
  rw [List.take_succ, List.foldl_append, h]; rfl

/-! ## The resources behind the account -/

/-- For a copy still to be sent: the right to raise its two cells, the position on the sender's, the block it fills. -/
def Tk (c : Dev nD) (i : I) : sProp 𝕄 :=
  iprop((dutyTok ER (sendCell c i) 0 0 ∗ dutyTok ER (recvCell (peer i c) i) 0 0 ∗ atPos ER (sendCell c i) 0 ∅ 0)
    ∗ ∃ f : OutC F, cp (peer i c) (chunk i c) fullShare f)
/-- For a copy still to be received. -/
def Rc (c : Dev nD) (i : I) : sProp 𝕄 := iprop(atPos ER (recvCell c i) 0 ∅ 0 ∗ cred (tallyAt (recvCell c i) () N))
/-- For a copy sent and not yet returned. -/
def Sn (c : Dev nD) (i : I) : sProp 𝕄 := iprop(atPos ER (sendCell c i) 0 ∅ 0 ∗ cred (tallyAt (sendCell c i) () N))
/-- For a cell done with: its counter, at zero. -/
def Cl (c : Dev nD) (k : Bool × I) : sProp 𝕄 := semVal (cell c (some k)) 0

/-- What device `c` holds when the account stands at `s`. -/
def State (c : Dev nD) (s : St) : sProp 𝕄 :=
  iprop((∃ W, owes (c : Thread nD τ) (debt c s.snd) W) ∗ held s.tks (Tk c) ∗ held s.rcv (Rc c) ∗ held s.sent (Sn c)
    ∗ held s.pcs (Pc m c) ∗ held s.cls (Cl c))

/-- What all devices know: every cell's invariant, that it is in its first round, and the cells' levels. -/
def records (K : Dev nD × CK → ℕ) : sProp 𝕄 :=
  iprop(((bigSep Finset.univ fun ck : Dev nD × CK => cellInv ER (Rd m) (K ck) (cell ck.1 ck.2))
    ∗ bigSep Finset.univ fun ck : Dev nD × CK => reached ER (cell ck.1 ck.2) 0) ∗ levAts L lv)
/-- What is known stays known. -/
instance records_persistent (K : Dev nD × CK → ℕ) : BI.Persistent (records m K) := by unfold records; infer_instance

/-- From it, a cell's invariant, -/
theorem rec_inv (K : Dev nD × CK → ℕ) (c : Dev nD) (k : CK) : records m K ⊢ cellInv ER (Rd m) (K (c, k)) (cell c k) := by
  unfold records; iintro ⟨⟨H, -⟩, -⟩
  iapply (at_univ (fun ck : Dev nD × CK => cellInv ER (Rd m) (K ck) (cell ck.1 ck.2)) (c, k)); iexact H
/-- that the cell is in its first round, -/
theorem rec_reached (K : Dev nD × CK → ℕ) (c : Dev nD) (k : CK) : records m K ⊢ reached ER (cell c k) 0 := by
  unfold records; iintro ⟨⟨-, H⟩, -⟩
  iapply (at_univ (fun ck : Dev nD × CK => (reached ER (cell ck.1 ck.2) 0 : sProp 𝕄)) (c, k)); iexact H
/-- and the levels. -/
theorem rec_lev (K : Dev nD × CK → ℕ) : records m K ⊢ levAts L lv := by unfold records; iintro ⟨-, H⟩; iexact H

end Cert.KernelIdeal.Soft

end
-- ==== Proof.KernelIdeal.Steps.lean ====
/-
# The steps of a device, each as one rule

For each kind of step — a copy sent, a copy received, a copy's end awaited at its sender, a load of received blocks — the
rule that takes the account from before the step to after it. Each is proved once, for every device and every copy.
-/
module

public import proofs.«01_k».proof.Proof.KernelIdeal.Proto

@[expose] public section

set_option maxRecDepth 100000

noncomputable section

namespace Cert.KernelIdeal.Soft

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)

/-- No variants: the kernel has no loops. -/
abbrev 𝒱₀ : Variants := Variants.none

/-! ## Blocks and their contents -/

/-- Block `j` of the result as the kernel slices it. -/
abbrev oS (off : Fin 2 → ℕ) (inb : ∀ a, off a + S256x128.size a ≤ S256x8192.size a) : Memref sig .tc .vmem S256x128 .f32 :=
  oM.slice (Rect.unit (s := S256x8192) off S256x128.size inb) (fun _ => rfl)

omit [FloatOps F] in
/-- The elements of such a block. -/
theorem oS_set {off : Fin 2 → ℕ} {j : ℕ} (ho : off = ![0, 128 * j]) (inb) : (oS off inb).view.set = cols (128 * j) 128 := by
  refine (View.set_slice_whole _ _).trans (rect_set ho ?_ inb)
  rfl

/-- A copy writes, in the columns it fills, the contents it reads. -/
theorem landed {off : Fin 2 → ℕ} (inb) (f g : OutC F) (i : S256x8192.Idx) (hi : i ∈ (oS off inb).view.set) :
    (oS off inb).view.write (Elt F) f ((oS off inb).view.read (Elt F) g) Finset.univ i = g i := by
  obtain ⟨x, _, rfl⟩ := Finset.mem_map.mp hi
  rw [View.write_emb_of_mem _ _ (Finset.mem_univ x), View.read_apply]
  simp

/-- In the columns of a copy the sender's contents and the receiver's are the same. -/
theorem G_peer (i : I) (c : Dev nD) (x : S256x8192.Idx) (hx : x ∈ cols (128 * chunk i c) 128) : G m c x = G m (peer i c) x := by
  rw [mem_cols] at hx
  have : (x 1).val / 128 = chunk i c := by omega
  unfold G; rw [this, org_peer]

/-- What the sending cell hands over, -/
theorem pay_send (c : Dev nD) (i : I) (d : Fin 3) : pay m c (some (false, i)) d = cp c (chunk i c) (shr (srcP i).1) (G m c) := rfl
/-- and the receiving one. -/
theorem pay_recv (c : Dev nD) (i : I) (d : Fin 3) : pay m c (some (true, i)) d = cp c (rch i c) fullShare (G m c) := rfl

/-- What a wait on the sending cell gets, -/
theorem rest_send (c : Dev nD) (i : I) :
    bigSep ((Rd (F := F) m).duties ((c : Thread nD τ), .dma (sendS i)) 0 \ ∅) (fun d => (Rd (F := F) m).payload ((c : Thread nD τ), .dma (sendS i)) 0 d)
      = cp c (chunk i c) (shr (srcP i).1) (G m c) := rest_cell m c false i
/-- and a wait on the receiving one. -/
theorem rest_recv (c : Dev nD) (i : I) :
    bigSep ((Rd (F := F) m).duties ((c : Thread nD τ), .dma (recvS i)) 0 \ ∅) (fun d => (Rd (F := F) m).payload ((c : Thread nD τ), .dma (recvS i)) 0 d)
      = cp c (rch i c) fullShare (G m c) := rest_cell m c true i

/-! ## A copy is sent -/

set_option maxHeartbeats 1000000 in
/-- Sending copy `j`: the block read and the block filled go to the copy, and its receiver is no longer owed. -/
theorem step_send (K : Dev nD × CK → ℕ) (c : Dev nD) (n : ℕ) (j : I) (hn : prog[n]? = some (.send j)) {v : ℕ} {hv : v < nD} (hd : v = (peer j c).val)
    {off : Fin 2 → ℕ} (hoff : off = ![0, 128 * chunk j c]) {inb : ∀ a, off a + S256x128.size a ≤ S256x8192.size a}
    {hsc : (oS off inb : Memref sig (Dev.tc (⟨v, hv⟩ : Dev nD) : Thread nD τ).2.kind .vmem S256x128 .f32).view.ref.isScScratch = false}
    {hsrc hdst : (oS off inb).view.WordExact}
    {hsem : DmaTarget.Typed .vmem (.dma (recvS j)) (.remote (Dev.tc (⟨v, hv⟩ : Dev nD) : Thread nD τ) (oS off inb) (.dma (sendS j)) hsc)}
    {α : Type} {Q : α → sProp 𝕄} {k : PUnit → Prog (TpuEff nD τ sig (Elt F) Λ₀ .tc) α} :
    iprop(records m K ∗ State m c (stt n))
      ⊢ iprop((State m c (stt (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS off inb) (.remote (Dev.tc (⟨v, hv⟩ : Dev nD) : Thread nD τ) (oS off inb) (.dma (sendS j)) hsc) (.dma (recvS j)) hsrc hdst hsem) k) Q) := by
  have ok := ok_at hn
  simp only [okA, Bool.and_eq_true, beq_iff_eq, Bool.not_eq_true', decide_eq_true_eq] at ok
  obtain ⟨⟨⟨h1, h2⟩, h3⟩, h4⟩ := ok
  obtain ⟨l, hl⟩ : ∃ l, (stt n).snd = j :: l := by
    rcases hs : (stt n).snd with _ | ⟨a, l⟩
    · rw [hs] at h1; cases h1
    · rw [hs] at h1; cases h1; exact ⟨l, rfl⟩
  rw [stt_succ hn]
  unfold State
  rw [held_take h2, held_take h4]
  show _ ⊢ iprop((iprop((∃ W, owes (c : Thread nD τ) (debt c (stt n).snd.tail) W) ∗ held (upd (stt n).tks j false) (Tk c) ∗ held (stt n).rcv (Rc c)
    ∗ held (upd (stt n).sent j true) (Sn c) ∗ held (upd (stt n).pcs (srcP j) false) (Pc m c) ∗ held (stt n).cls (Cl c)) -∗ _) -∗ _)
  rw [held_put h3, hl, List.tail_cons, Pc_srcP]
  unfold Tk
  iintro ⟨#HR, ⟨%W, HO⟩, ⟨⟨⟨HtS, HtR, Hat⟩, ⟨%f, Hd⟩⟩, Htks⟩, Hrcv, Hsent, ⟨Hp, Hpcs⟩, Hcls⟩ Hk
  ihave #HIs := (rec_inv m K c (some (false, j))) $$ HR
  ihave #HIr := (rec_inv m K (peer j c) (some (true, j))) $$ HR
  ihave #Hrs := (rec_reached m K c (some (false, j))) $$ HR
  ihave #Hrr := (rec_reached m K (peer j c) (some (true, j))) $$ HR
  unfold cp
  rw [← oS_set hoff inb]
  subst hd
  iapply (Rounds.wp_send_pointsTo 𝒱₀ ER (Rd m) (c : Thread nD τ) none (κ₁ := K (c, some (false, j))) (κ₂ := K (peer j c, some (true, j)))
    (c' := (peer j c : Thread nD τ)) (src := oS off inb) (dst := oS off inb) (q := shr (srcP j).1) (fs := G m c)
    (r₁ := 0) (r₂ := 0) (d₁ := 0) (d₂ := 0) (fd := f)
    (by show _ ∈ (Rd m).duties (cell c (some (false, j))) 0; rw [duties_cell]; exact Finset.mem_singleton_self _)
    (by show _ ∈ (Rd m).duties (cell (peer j c) (some (true, j))) 0; rw [duties_cell]; exact Finset.mem_singleton_self _)
    () () N rfl (amount_cell m c (some (false, j)) 0) (amount_cell m (peer j c) (some (true, j)) 0) (debt c l) rfl (W := W)
    (by
      show _ ⊢ (Rd m).payload (cell c (some (false, j))) 0 0
      rw [payload_cell, pay_send]; unfold cp; rw [← oS_set hoff inb])
    (by
      show _ ⊢ (Rd m).payload (cell (peer j c) (some (true, j))) 0 0
      rw [payload_cell, pay_recv]; unfold cp rch; rw [peer_peer, ← oS_set hoff inb]
      refine Entails.of_eq (pointsTo_congr fun x hx => ?_)
      rw [landed inb f (G m c) x hx]
      exact G_peer m j c x (by rw [← oS_set hoff inb]; exact hx)))
    $$ [Hp Hd HO HtS HtR]
  · isplitr; · iexact HIs
    isplitr; · iexact HIr
    isplitl [Hp]; · iexact Hp
    isplitl [Hd]; · iexact Hd
    isplitl [HO]; · iexact HO
    isplitl [HtS]; · iexact HtS
    isplitr; · iexact Hrs
    isplitl [HtR]; · iexact HtR
    iexact Hrr
  iintro ⟨Hc, HO⟩
  iapply Hk
  isplitl [HO]; · iexists W; iexact HO
  isplitl [Htks]; · iexact Htks
  isplitl [Hrcv]; · iexact Hrcv
  isplitl [Hat Hc Hsent]
  · isplitl [Hat Hc]
    · unfold Sn; isplitl [Hat]; · iexact Hat
      iexact Hc
    iexact Hsent
  isplitl [Hpcs]; · iexact Hpcs
  iexact Hcls

/-- A kept share of a received block. -/
theorem Pc_kept (c : Dev nD) (a : Fin 4) (i : I) (h : a ≠ 0) : Pc m c (a, i) = cp c (rch i c) (shr a) (G m c) := by
  unfold Pc; rw [if_neg (show (a, i).1 ≠ 0 from h)]
/-- An own block, held whole. -/
theorem Pc_own (c : Dev nD) (i : I) : Pc m c (0, i) = cp c (chunk i c) fullShare (G m c) := by
  unfold Pc; rw [if_pos rfl]; rfl

/-! ## A copy is received -/

omit [FloatOps F] in
/-- A block held whole is its three shares. -/
theorem cp_shares (c : Dev nD) (j : ℕ) (f : OutC F) : cp c j fullShare f ⊣⊢ iprop(cp c j (shr 1) f ∗ cp c j (shr 2) f ∗ cp c j (shr 3) f) := by
  unfold cp
  show _ ⊣⊢ iprop((oL c ↦[cols (128 * j) 128]{(fullShare : PosShare TreeShare).left} f)
    ∗ (oL c ↦[cols (128 * j) 128]{(fullShare : PosShare TreeShare).right.left} f)
    ∗ (oL c ↦[cols (128 * j) 128]{(fullShare : PosShare TreeShare).right.right} f))
  have h1 := pointsTo_share (Ix := Unit) (Name := ℕ) (U := UU) (Lvl := ℕ) (ℓ := oL c) (I := cols (128 * j) 128) (f := f) (PosShare.mem_left_op_right (fullShare : PosShare TreeShare))
  have h2 := pointsTo_share (Ix := Unit) (Name := ℕ) (U := UU) (Lvl := ℕ) (ℓ := oL c) (I := cols (128 * j) 128) (f := f) (PosShare.mem_left_op_right (fullShare : PosShare TreeShare).right)
  constructor
  · iintro H
    ihave H := h1.1 $$ H
    icases H with ⟨$, H⟩
    iapply h2.1 $$ H
  · iintro ⟨H1, H⟩
    iapply h1.2
    isplitl [H1]; · iexact H1
    iapply h2.2 $$ H

set_option maxHeartbeats 1000000 in
/-- Waiting for copy `i` to arrive: its block is then held, in three shares, with the exponentials in it. -/
theorem step_recv (K : Dev nD × CK → ℕ) (c : Dev nD) (n : ℕ) (i : I) (hn : prog[n]? = some (.recv i))
    {off : Fin 2 → ℕ} {inb : ∀ a, off a + S256x128.size a ≤ S256x8192.size a} {h1 h2 : (oS off inb).view.WordExact}
    {α : Type} {Q : α → sProp 𝕄} {k : PUnit → Prog (TpuEff nD τ sig (Elt F) Λ₀ .tc) α} :
    iprop(records m K ∗ State m c (stt n))
      ⊢ iprop((State m c (stt (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) (oS off inb) (oS off inb) h1 h2) k) Q) := by
  have ok := ok_at hn
  simp only [okA, Bool.and_eq_true, Bool.not_eq_true', List.all_eq_true, decide_eq_true_eq] at ok
  obtain ⟨⟨⟨⟨⟨o1, o2⟩, o3⟩, o4⟩, o5⟩, o6⟩ := ok
  rw [stt_succ hn]
  unfold State
  rw [held_take o1]
  show _ ⊢ iprop((iprop((∃ W, owes (c : Thread nD τ) (debt c (stt n).snd) W) ∗ held (stt n).tks (Tk c) ∗ held (upd (stt n).rcv i false) (Rc c)
    ∗ held (stt n).sent (Sn c) ∗ held (upd (upd (upd (stt n).pcs (1, i) true) (2, i) true) (3, i) true) (Pc m c) ∗ held (upd (stt n).cls (true, i) true) (Cl c)) -∗ _) -∗ _)
  rw [held_put (f := upd (upd (stt n).pcs (1, i) true) (2, i) true) (a := (3, i)) (by simp [upd, o4]),
    held_put (f := upd (stt n).pcs (1, i) true) (a := (2, i)) (by simp [upd, o3]), held_put o2, held_put o5, Pc_kept m c 3 i (by decide), Pc_kept m c 2 i (by decide),
    Pc_kept m c 1 i (by decide)]
  unfold Rc Cl
  iintro ⟨#HR, ⟨%W, HO⟩, Htks, ⟨⟨Hat, Hc⟩, Hrcv⟩, Hsent, Hpcs, Hcls⟩ Hk
  ihave #HI := (rec_inv m K c (some (true, i))) $$ HR
  ihave #Hlev := (rec_lev m K) $$ HR
  iapply (Rounds.wp_wait_rest_token 𝒱₀ ER (Rd m) (c : Thread nD τ) none (κ := K (c, some (true, i)))
      (wpE_waitDma2_eq 𝒱₀ (c : Thread nD τ) none Set.univ) (Set.mem_univ _) () (O := debt c (stt n).snd) (W := W) (R := 0) (m := 0) (T := ∅)
      (by rw [Nat.zero_add]; exact ((expect_cell m c (some (true, i))).trans (Nat.one_mul N)).symm)) $$ [Hc HO Hat]
  · isplitr; · iexact HI
    isplitl [Hc]; · iexact Hc
    isplitl [HO]; · iexact HO
    isplitr
    · iapply (mayWait_debt c (.dma (recvS i)) (rlev i) (stt n).snd (lv_cell c (some (true, i)) ()) o6); iexact Hlev
    iexact Hat
  iintro ⟨HO, Hat, -, Hpay⟩
  ihave Hp := (Entails.of_eq (rest_recv m c i)) $$ Hpay
  imod (Rounds.cell_close ER (Rd m) (Set.mem_univ (K (c, some (true, i)))) (fun h => h) (R := 0 + 1) (duties_later m (recvCell c i))) $$ [Hat] with Hz
  · isplitr; · iexact HI
    iexact Hat
  ihave Hp := (cp_shares c (rch i c) (G m c)).1 $$ Hp
  icases Hp with ⟨Hp1, Hp2, Hp3⟩
  iapply Hk
  isplitl [HO]; · iexists _; iexact HO
  isplitl [Htks]; · iexact Htks
  isplitl [Hrcv]; · iexact Hrcv
  isplitl [Hsent]; · iexact Hsent
  isplitl [Hp1 Hp2 Hp3 Hpcs]
  · isplitl [Hp3]; · iexact Hp3
    isplitl [Hp2]; · iexact Hp2
    isplitl [Hp1]; · iexact Hp1
    iexact Hpcs
  isplitl [Hz]; · iexact Hz
  iexact Hcls

/-! ## A copy's end at its sender -/

set_option maxHeartbeats 1000000 in
/-- Waiting for copy `i` to have left: the share it was read from comes back. -/
theorem step_ret (K : Dev nD × CK → ℕ) (c : Dev nD) (n : ℕ) (i : I) (hn : prog[n]? = some (.ret i))
    {off : Fin 2 → ℕ} {inb : ∀ a, off a + S256x128.size a ≤ S256x8192.size a} {h1 h2 : (oS off inb).view.WordExact}
    {α : Type} {Q : α → sProp 𝕄} {k : PUnit → Prog (TpuEff nD τ sig (Elt F) Λ₀ .tc) α} :
    iprop(records m K ∗ State m c (stt n))
      ⊢ iprop((State m c (stt (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) (oS off inb) (oS off inb) h1 h2) k) Q) := by
  have ok := ok_at hn
  simp only [okA, Bool.and_eq_true, Bool.not_eq_true', List.isEmpty_iff] at ok
  obtain ⟨⟨⟨o1, o2⟩, o3⟩, o4⟩ := ok
  rw [stt_succ hn]
  unfold State
  rw [held_take o1]
  show _ ⊢ iprop((iprop((∃ W, owes (c : Thread nD τ) (debt c (stt n).snd) W) ∗ held (stt n).tks (Tk c) ∗ held (stt n).rcv (Rc c)
    ∗ held (upd (stt n).sent i false) (Sn c) ∗ held (upd (stt n).pcs (srcP i) true) (Pc m c) ∗ held (upd (stt n).cls (false, i) true) (Cl c)) -∗ _) -∗ _)
  rw [held_put o2, held_put o3, Pc_srcP, o4]
  unfold Sn Cl
  iintro ⟨#HR, ⟨%W, HO⟩, Htks, Hrcv, ⟨⟨Hat, Hc⟩, Hsent⟩, Hpcs, Hcls⟩ Hk
  ihave #HI := (rec_inv m K c (some (false, i))) $$ HR
  iapply (Rounds.wp_wait_rest_token 𝒱₀ ER (Rd m) (c : Thread nD τ) none (κ := K (c, some (false, i)))
      (wpE_waitDma2_eq 𝒱₀ (c : Thread nD τ) none Set.univ) (Set.mem_univ _) () (O := debt c []) (W := W) (R := 0) (m := 0) (T := ∅)
      (by rw [Nat.zero_add]; exact ((expect_cell m c (some (false, i))).trans (Nat.one_mul N)).symm)) $$ [Hc HO Hat]
  · isplitr; · iexact HI
    isplitl [Hc]; · iexact Hc
    isplitl [HO]; · iexact HO
    isplitr
    · rw [show debt c [] = 0 from rfl, MayWait_zero]; iempintro
    iexact Hat
  iintro ⟨HO, Hat, -, Hpay⟩
  ihave Hp := (Entails.of_eq (rest_send m c i)) $$ Hpay
  imod (Rounds.cell_close ER (Rd m) (Set.mem_univ (K (c, some (false, i)))) (fun h => h) (R := 0 + 1) (duties_later m (sendCell c i))) $$ [Hat] with Hz
  · isplitr; · iexact HI
    iexact Hat
  iapply Hk
  isplitl [HO]; · iexists _; iexact HO
  isplitl [Htks]; · iexact Htks
  isplitl [Hrcv]; · iexact Hrcv
  isplitl [Hsent]; · iexact Hsent
  isplitl [Hp Hpcs]
  · isplitl [Hp]; · iexact Hp
    iexact Hpcs
  isplitl [Hz]; · iexact Hz
  iexact Hcls

/-! ## The blocks of the opposite quarter come to the account -/

/-- Three blocks of the opposite quarter are entered in the account. -/
theorem step_own (c : Dev nD) (n : ℕ) (hn : prog[n]? = some .own) :
    iprop((Pc m c (0, 8) ∗ Pc m c (0, 9) ∗ Pc m c (0, 10)) ∗ State m c (stt n)) ⊢ State m c (stt (n + 1)) := by
  have ok := ok_at hn
  simp only [okA, Bool.and_eq_true, Bool.not_eq_true'] at ok
  obtain ⟨⟨o1, o2⟩, o3⟩ := ok
  rw [stt_succ hn]
  unfold State
  show _ ⊢ iprop((∃ W, owes (c : Thread nD τ) (debt c (stt n).snd) W) ∗ held (stt n).tks (Tk c) ∗ held (stt n).rcv (Rc c)
    ∗ held (stt n).sent (Sn c) ∗ held (upd (upd (upd (stt n).pcs (0, 8) true) (0, 9) true) (0, 10) true) (Pc m c) ∗ held (stt n).cls (Cl c))
  rw [held_put (f := upd (upd (stt n).pcs (0, 8) true) (0, 9) true) (a := (0, 10)) (by simp [upd, o3]),
    held_put (f := upd (stt n).pcs (0, 8) true) (a := (0, 9)) (by simp [upd, o2]), held_put o1]
  iintro ⟨⟨H8, H9, H10⟩, HO, Htks, Hrcv, Hsent, Hpcs, Hcls⟩
  isplitl [HO]; · iexact HO
  isplitl [Htks]; · iexact Htks
  isplitl [Hrcv]; · iexact Hrcv
  isplitl [Hsent]; · iexact Hsent
  isplitl [H8 H9 H10 Hpcs]
  · isplitl [H10]; · iexact H10
    isplitl [H9]; · iexact H9
    isplitl [H8]; · iexact H8
    iexact Hpcs
  iexact Hcls

/-! ## Neighbouring blocks as one -/

omit [FloatOps F] in
/-- Blocks of `g` columns that follow one another in some order are one stretch of columns. -/
theorem blocks_join {A : Type} [DecidableEq A] (c : Dev nD) (g : ℕ) (hg : 0 < g) (T : Finset A) (b : A → ℕ) (a n : ℕ)
    (hin : ∀ t ∈ T, a ≤ b t ∧ b t < a + n) (hinj : ∀ t ∈ T, ∀ u ∈ T, b t = b u → t = u) (hex : ∀ j, a ≤ j → j < a + n → ∃ t ∈ T, b t = j)
    (q : PosShare TreeShare) (f : OutC F) :
    (bigSep T fun t => (oL c ↦[cols (g * b t) g]{q} f : sProp 𝕄)) = (oL c ↦[cols (g * a) (g * n)]{q} f : sProp 𝕄) := by
  have hset : T.biUnion (fun t => cols (g * b t) g) = cols (g * a) (g * n) := by
    ext x
    rw [Finset.mem_biUnion, mem_cols]
    constructor
    · rintro ⟨t, ht, hx⟩
      rw [mem_cols] at hx
      have h1 := Nat.mul_le_mul_left g (hin t ht).1
      have h2 := Nat.mul_le_mul_left g (Nat.succ_le_of_lt (hin t ht).2)
      rw [Nat.mul_succ, Nat.mul_add] at h2
      omega
    · rintro ⟨h1, h2⟩
      have e := Nat.div_add_mod (x 1).val g
      have l := Nat.mod_lt (x 1).val hg
      obtain ⟨t, ht, hb⟩ := hex ((x 1).val / g) ((Nat.le_div_iff_mul_le hg).mpr (by rw [Nat.mul_comm]; exact h1))
        ((Nat.div_lt_iff_lt_mul hg).mpr (by rw [Nat.mul_comm, Nat.mul_add]; exact h2))
      exact ⟨t, ht, by rw [mem_cols, hb]; omega⟩
  have hdis : ∀ t ∈ T, ∀ u ∈ T, t ≠ u → Disjoint (cols (g * b t) g) (cols (g * b u) g) := by
    intro t ht u hu htu
    have hne : b t ≠ b u := fun h => htu (hinj t ht u hu h)
    refine cols_disjoint ?_
    rcases Nat.lt_or_gt_of_ne hne with h | h
    · left; have := Nat.mul_le_mul_left g (Nat.succ_le_of_lt h); rw [Nat.mul_succ] at this; omega
    · right; have := Nat.mul_le_mul_left g (Nat.succ_le_of_lt h); rw [Nat.mul_succ] at this; omega
  rw [← hset]
  exact (pointsTo_biUnion (ℓ := oL c) (q := q) (f := f) T (fun t => cols (g * b t) g) hdis).symm

/-! ## Received blocks are loaded -/

/-- The kept shares of the blocks that copies `lo` to `lo + kk` fill. -/
def kept (lo kk : ℕ) : Finset P := (Finset.univ.filter fun i : I => lo ≤ i.val ∧ i.val < lo + kk).map ⟨fun i => (3, i), fun _ _ h => (Prod.mk.inj h).2⟩

/-- The kept shares of blocks that follow one another are one stretch of columns. -/
theorem kept_join (c : Dev nD) (lo kk a : ℕ) (hlo : lo + kk ≤ 32) (hr : ∀ i : I, lo ≤ i.val → i.val < lo + kk → rch i c = a + (i.val - lo)) :
    bigSep (kept lo kk) (Pc m c) = (oL c ↦[cols (128 * a) (128 * kk)]{shr 3} G m c : sProp 𝕄) := by
  unfold kept
  rw [bigSep_map]
  refine Eq.trans (bigSep_congr fun i _ => ?_) (blocks_join c 128 (by decide) (Finset.univ.filter fun i : I => lo ≤ i.val ∧ i.val < lo + kk) (fun i => rch i c) a kk ?_ ?_ ?_ (shr 3) (G m c))
  · rfl
  · intro i hi
    rw [Finset.mem_filter] at hi
    have := hr i hi.2.1 hi.2.2; omega
  · intro i _ j _ h; exact rch_inj c i j h
  · intro j h1 h2
    refine ⟨⟨lo + (j - a), by omega⟩, Finset.mem_filter.mpr ⟨Finset.mem_univ _, ?_⟩, ?_⟩
    · constructor
      · exact Nat.le_add_right _ _
      · show lo + (j - a) < lo + kk; omega
    · rw [hr _ (Nat.le_add_right _ _) (by show lo + (j - a) < lo + kk; omega)]
      show a + (lo + (j - a) - lo) = j; omega

set_option maxHeartbeats 1000000 in
/-- Such a stretch is loaded, and holds the exponentials. -/
theorem step_load (c : Dev nD) (s : St) (lo kk a : ℕ) (hlo : lo + kk ≤ 32) (hs : ∀ p ∈ kept lo kk, s.pcs p = true)
    (hr : ∀ i : I, lo ≤ i.val → i.val < lo + kk → rch i c = a + (i.val - lo)) {off sz : Fin 2 → ℕ} (hoff : off = ![0, 128 * a]) (hsz : sz = ![256, 128 * kk])
    {inb : ∀ d, off d + sz d ≤ S256x8192.size d} {hl : oM.view.LoadsAt (Rect.unit (s := S256x8192) off sz inb).toLoadRect}
    {α : Type} {Q : α → sProp 𝕄} {k : ((Rect.unit (s := S256x8192) off sz inb).toLoadRect.shape.Idx → Elt F .f32) → Prog (TpuEff nD τ sig (Elt F) Λ₀ .tc) α} :
    State m c s
      ⊢ iprop((State m c s -∗ wp frame (wpE (defs₀ (F := F)) 𝒱₀ (c : Thread nD τ) none) Set.univ
            (k (oM.view.readAt (Elt F) (Rect.unit (s := S256x8192) off sz inb).toLoadRect (G m c))) Q)
          -∗ wp frame (wpE (defs₀ (F := F)) 𝒱₀ (c : Thread nD τ) none) Set.univ (.op (.load oM (Rect.unit (s := S256x8192) off sz inb).toLoadRect hl) k) Q) := by
  unfold State
  rw [held_split (kept lo kk) hs, kept_join m c lo kk a hlo hr]
  iintro ⟨HO, Htks, Hrcv, Hsent, ⟨Hp, Hpcs⟩, Hcls⟩ Hk
  iapply (wp_load 𝒱₀ (c : Thread nD τ) none Set.univ (m := oM) (S := cols (128 * a) (128 * kk)) (q := shr 3) (f := G m c)
    (by rw [← rect_set hoff hsz inb]; exact (Finset.map_refl).le)) $$ Hp
  iintro Hp
  iapply Hk
  isplitl [HO]; · iexact HO
  isplitl [Htks]; · iexact Htks
  isplitl [Hrcv]; · iexact Hrcv
  isplitl [Hsent]; · iexact Hsent
  isplitl [Hp Hpcs]
  · isplitl [Hp]; · iexact Hp
    iexact Hpcs
  iexact Hcls

/-! ## A quarter is computed -/

/-- There are four quarters. -/
theorem quar_lt (c : Dev nD) (a : Fin 4) : quar c a < 4 := by revert c a; decide +kernel

/-- A quarter of `W` as the kernel loads it. -/
theorem readW (c : Dev nD) (q : ℕ) (hq : q < 4) {off : Fin 2 → ℕ} (hoff : off = ![0, 1024 * q]) (inb) :
    wM.view.readAt (Elt F) (Rect.unit (s := S512x4096) off S512x1024.size inb).toLoadRect (wstg m c) = wq m c ⟨q, hq⟩ := by
  subst hoff; rfl

omit [FloatOps F] in
/-- Where an index of a rectangle of the result lies in it. -/
theorem access_val {off sz : Fin 2 → ℕ} (inb) (x : (Rect.unit (s := S256x8192) off sz inb).shape.Idx) (d : Fin 2) :
    ((oM.access (Rect.unit (s := S256x8192) off sz inb)).emb x d).val = off d + (x d).val := by
  show off d + 1 * (x d).val = _; omega

/-- Once a quarter's exponentials are stored, its columns hold what they shall hold. -/
theorem stored (c : Dev nD) (a : Fin 4) {off : Fin 2 → ℕ} (hoff : off = ![0, 128 * (own c + 8 * quar c a)]) (inb)
    (f : OutC F) (i : S256x8192.Idx) (hi : i ∈ cols (128 * (own c + 8 * quar c a)) 1024) :
    (oM.access (Rect.unit (s := S256x8192) off S256x1024.size inb)).write (Elt F) f (eq4 m c ⟨quar c a, quar_lt c a⟩) Finset.univ i = G m c i := by
  have hset : i ∈ (oM.access (Rect.unit (s := S256x8192) off S256x1024.size inb)).set := by
    rw [show (oM.access (Rect.unit (s := S256x8192) off S256x1024.size inb)).set = _ from View.set_slice_whole _ _, rect_set hoff rfl inb]; exact hi
  obtain ⟨x, _, rfl⟩ := Finset.mem_map.mp hset
  rw [View.write_emb_of_mem _ _ (Finset.mem_univ x)]
  show eq4 m c ⟨quar c a, quar_lt c a⟩ x = _
  have e0 := access_val inb x 0
  have e1 := access_val inb x 1
  have o0 : off 0 = 0 := by rw [hoff]; rfl
  have o1 : off 1 = 128 * (own c + 8 * quar c a) := by rw [hoff]; rfl
  rw [o0, Nat.zero_add] at e0
  rw [o1] at e1
  generalize hy : (oM.access (Rect.unit (s := S256x8192) off S256x1024.size inb)).emb x = y
  have f0 : (y 0).val = (x 0).val := by rw [← hy]; exact e0
  have f1 : (y 1).val = 128 * (own c + 8 * quar c a) + (x 1).val := by rw [← hy]; exact e1
  have hx1 : (x 1).val < 1024 := (x 1).isLt
  have hq := quar_lt c a
  have ho : own c = 0 ∨ own c = 32 := by rcases own_or_oth c with h | h <;> omega
  show _ = eAt m (org c ((y 1).val / 128)) y
  rw [org_own c _ (by omega)]
  unfold eAt
  refine congr (congrArg (eq4 m c) (Fin.ext ?_)) ?_
  · show quar c a = (y 1).val / 1024 % 4; omega
  · funext d; fin_cases d
    · exact Fin.ext f0.symm
    · exact Fin.ext (by show (x 1).val = (y 1).val % 1024; omega)

end Cert.KernelIdeal.Soft

end
-- ==== Proof.KernelIdeal.Parts.lean ====
/-
# The kernel's parts

The kernel's text is cut into parts. For each, what it takes and gives back: the account `At n` from before its steps to
after them, and the values it hands on. The words a part computes or takes never matter — devices and offsets are those
of the device the part runs on — so they are left arbitrary.
-/
module

public import proofs.«01_k».proof.Proof.KernelIdeal.Steps

@[expose] public section

set_option maxRecDepth 100000

noncomputable section

namespace Cert.KernelIdeal.Soft

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)

/-- A program run by device `c`, with what shall hold at its end. -/
abbrev run {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What all devices know, and the account of device `c` before step `n`. -/
def At (n : ℕ) : sProp 𝕄 := iprop(records m K ∗ State m c (stt n))

/-- What is known is kept in a step. -/
theorem keep {R S S' W W' : sProp 𝕄} [BI.Persistent R] (h : iprop(R ∗ S) ⊢ iprop((S' -∗ W) -∗ W')) : iprop(R ∗ S) ⊢ iprop((iprop(R ∗ S') -∗ W) -∗ W') := by
  iintro ⟨#HR, HS⟩ Hk
  iapply h $$ [HS]
  · isplitr; · iexact HR
    iexact HS
  iintro HS
  iapply Hk
  isplitr; · iexact HR
  iexact HS

/-- The step that sends copy `j`, on the account, -/
theorem at_send {α : Type} {Q : α → sProp 𝕄} {k : PUnit → Prog (TpuEff nD τ sig (Elt F) Λ₀ .tc) α} (n : ℕ) (j : I) (hn : prog[n]? = some (.send j)) {v : ℕ} {hv : v < nD} (hd : v = (peer j c).val)
    {off : Fin 2 → ℕ} (hoff : off = ![0, 128 * chunk j c]) {inb : ∀ a, off a + S256x128.size a ≤ S256x8192.size a}
    {hsc : (oS off inb : Memref sig (Dev.tc (⟨v, hv⟩ : Dev nD) : Thread nD τ).2.kind .vmem S256x128 .f32).view.ref.isScScratch = false}
    {hsrc hdst : (oS off inb).view.WordExact}
    {hsem : DmaTarget.Typed .vmem (.dma (recvS j)) (.remote (Dev.tc (⟨v, hv⟩ : Dev nD) : Thread nD τ) (oS off inb) (.dma (sendS j)) hsc)} :
    At m K c n ⊢ iprop((At m K c (n + 1) -∗ run c (k ⟨⟩) Q)
      -∗ run c (.op (.enqueueDma (oS off inb) (.remote (Dev.tc (⟨v, hv⟩ : Dev nD) : Thread nD τ) (oS off inb) (.dma (sendS j)) hsc) (.dma (recvS j)) hsrc hdst hsem) k) Q) :=
  keep (step_send m K c n j hn hd hoff)

/-- the step that waits for copy `i` to arrive, -/
theorem at_recv {α : Type} {Q : α → sProp 𝕄} {k : PUnit → Prog (TpuEff nD τ sig (Elt F) Λ₀ .tc) α} (n : ℕ) (i : I) (hn : prog[n]? = some (.recv i)) {off : Fin 2 → ℕ} {inb : ∀ a, off a + S256x128.size a ≤ S256x8192.size a}
    {h1 h2 : (oS off inb).view.WordExact} :
    At m K c n ⊢ iprop((At m K c (n + 1) -∗ run c (k ⟨⟩) Q) -∗ run c (.op (.waitDma2 (recvS i) (oS off inb) (oS off inb) h1 h2) k) Q) :=
  keep (step_recv m K c n i hn)

/-- the step that waits for copy `i` to have left, -/
theorem at_ret {α : Type} {Q : α → sProp 𝕄} {k : PUnit → Prog (TpuEff nD τ sig (Elt F) Λ₀ .tc) α} (n : ℕ) (i : I) (hn : prog[n]? = some (.ret i)) {off : Fin 2 → ℕ} {inb : ∀ a, off a + S256x128.size a ≤ S256x8192.size a}
    {h1 h2 : (oS off inb).view.WordExact} :
    At m K c n ⊢ iprop((At m K c (n + 1) -∗ run c (k ⟨⟩) Q) -∗ run c (.op (.waitDma2 (sendS i) (oS off inb) (oS off inb) h1 h2) k) Q) :=
  keep (step_ret m K c n i hn)

/-- and a load of the received blocks of the copies from `lo` on. -/
theorem at_load {α : Type} {Q : α → sProp 𝕄} (n lo kk a : ℕ) (hlo : lo + kk ≤ 32) (hs : ∀ p ∈ kept lo kk, (stt n).pcs p = true)
    (hr : ∀ i : I, lo ≤ i.val → i.val < lo + kk → rch i c = a + (i.val - lo)) {off sz : Fin 2 → ℕ} (hoff : off = ![0, 128 * a]) (hsz : sz = ![256, 128 * kk])
    {inb : ∀ d, off d + sz d ≤ S256x8192.size d} {hl : oM.view.LoadsAt (Rect.unit (s := S256x8192) off sz inb).toLoadRect}
    {k : ((Rect.unit (s := S256x8192) off sz inb).toLoadRect.shape.Idx → Elt F .f32) → Prog (TpuEff nD τ sig (Elt F) Λ₀ .tc) α} :
    At m K c n ⊢ iprop((At m K c n -∗ run c (k (oM.view.readAt (Elt F) (Rect.unit (s := S256x8192) off sz inb).toLoadRect (G m c))) Q)
      -∗ run c (.op (.load oM (Rect.unit (s := S256x8192) off sz inb).toLoadRect hl) k) Q) := by
  unfold At
  iintro ⟨#HR, HS⟩ Hk
  iapply (step_load m c (stt n) lo kk a hlo hs hr hoff hsz) $$ HS
  iintro HS
  iapply Hk
  isplitr; · iexact HR
  iexact HS

/-! ## The operands, and the quarters of the own half -/

/-- `x` as the device has it. -/
def xP : sProp 𝕄 := (c : Thread nD τ).loc cc0_stg0_0 ↦{fullShare} xstg m c
/-- The half of `W` as the device has it. -/
def wP : sProp 𝕄 := (c : Thread nD τ).loc cc0_stg1_0 ↦{fullShare} wstg m c
/-- Quarter `a` of the device's half of the result. -/
def qP (a : Fin 4) (f : OutC F) : sProp 𝕄 := oL c ↦[cols (128 * (own c + 8 * quar c a)) 1024]{fullShare} f
/-- The quarter's number among the four of the half. -/
abbrev qF (a : Fin 4) : Fin 4 := ⟨quar c a, quar_lt c a⟩

/-- `x` is loaded. -/
theorem load_x {α : Type} {Q : α → sProp 𝕄} {inb} {hl : xM.view.LoadsAt (Rect.unit (s := S256x512) ![0, 0] S256x512.size inb).toLoadRect}
    {k : ((Rect.unit (s := S256x512) ![0, 0] S256x512.size inb).toLoadRect.shape.Idx → Elt F .f32) → Prog (TpuEff nD τ sig (Elt F) Λ₀ .tc) α} :
    xP m c ⊢ iprop((xP m c -∗ run c (k (xstg m c)) Q) -∗ run c (.op (.load xM (Rect.unit (s := S256x512) ![0, 0] S256x512.size inb).toLoadRect hl) k) Q) := by
  unfold xP
  iintro H Hk
  iapply (wp_load 𝒱₀ (c : Thread nD τ) none Set.univ (m := xM) (Finset.subset_univ _)) $$ H; iintro H
  rw [show xM.view.readAt (Elt F) (Rect.unit (s := S256x512) ![0, 0] S256x512.size inb).toLoadRect (xstg m c) = xstg m c from
    Memref.readAt_unit_zero (Elt F) cc0_stg0_0 (off := ![0, 0]) (by decide) inb (xstg m c)]
  iapply Hk $$ H

/-- A quarter of `W` is loaded. -/
theorem load_W {α : Type} {Q : α → sProp 𝕄} (a : Fin 4) {off : Fin 2 → ℕ} (hoff : off = ![0, 1024 * quar c a]) {inb : ∀ d, off d + S512x1024.size d ≤ S512x4096.size d}
    {hl : wM.view.LoadsAt (Rect.unit (s := S512x4096) off S512x1024.size inb).toLoadRect}
    {k : ((Rect.unit (s := S512x4096) off S512x1024.size inb).toLoadRect.shape.Idx → Elt F .f32) → Prog (TpuEff nD τ sig (Elt F) Λ₀ .tc) α} :
    wP m c ⊢ iprop((wP m c -∗ run c (k (wq m c (qF c a))) Q) -∗ run c (.op (.load wM (Rect.unit (s := S512x4096) off S512x1024.size inb).toLoadRect hl) k) Q) := by
  unfold wP
  iintro H Hk
  iapply (wp_load 𝒱₀ (c : Thread nD τ) none Set.univ (m := wM) (Finset.subset_univ _)) $$ H; iintro H
  rw [readW m c (quar c a) (quar_lt c a) hoff]
  iapply Hk $$ H

/-- The elements under a quarter's rectangle. -/
theorem quarter_set (a : Fin 4) {off : Fin 2 → ℕ} (hoff : off = ![0, 128 * (own c + 8 * quar c a)]) (inb : ∀ d, off d + S256x1024.size d ≤ S256x8192.size d) :
    (Rect.unit (s := S256x8192) off S256x1024.size inb).set = cols (128 * (own c + 8 * quar c a)) 1024 := rect_set hoff rfl inb

/-- What stands in a quarter is loaded. -/
theorem load_quarter {α : Type} {Q : α → sProp 𝕄} (a : Fin 4) {off : Fin 2 → ℕ} (hoff : off = ![0, 128 * (own c + 8 * quar c a)]) (f : OutC F)
    {inb : ∀ d, off d + S256x1024.size d ≤ S256x8192.size d} {hl : oM.view.LoadsAt (Rect.unit (s := S256x8192) off S256x1024.size inb).toLoadRect}
    {k : ((Rect.unit (s := S256x8192) off S256x1024.size inb).toLoadRect.shape.Idx → Elt F .f32) → Prog (TpuEff nD τ sig (Elt F) Λ₀ .tc) α} :
    qP c a f ⊢ iprop((∀ v, qP c a f -∗ run c (k v) Q)
      -∗ run c (.op (.load oM (Rect.unit (s := S256x8192) off S256x1024.size inb).toLoadRect hl) k) Q) := by
  unfold qP
  iintro H Hk
  iapply (wp_load 𝒱₀ (c : Thread nD τ) none Set.univ (m := oM) (S := cols (128 * (own c + 8 * quar c a)) 1024)
    (by rw [← quarter_set c a hoff inb]; exact (Finset.map_refl).le)) $$ H; iintro H
  iapply Hk $$ H

/-- Once a quarter's exponentials are stored, the quarter is as it shall be. -/
theorem stored_quarter (a : Fin 4) {off : Fin 2 → ℕ} (hoff : off = ![0, 128 * (own c + 8 * quar c a)]) (inb : ∀ d, off d + S256x1024.size d ≤ S256x8192.size d) (f : OutC F) :
    ((oL c ↦[cols (128 * (own c + 8 * quar c a)) 1024]{fullShare}
      (oM.access (Rect.unit (s := S256x8192) off S256x1024.size inb)).write (Elt F) f (eq4 m c (qF c a)) Finset.univ) : sProp 𝕄) = qP c a (G m c) :=
  pointsTo_congr (ℓ := oL c) (q := fullShare) (g := G m c) fun i hi => stored m c a hoff inb f i hi

/-- A quarter's exponentials are stored. -/
theorem store_quarter {α : Type} {Q : α → sProp 𝕄} {k : PUnit → Prog (TpuEff nD τ sig (Elt F) Λ₀ .tc) α} (a : Fin 4) {off : Fin 2 → ℕ}
    (hoff : off = ![0, 128 * (own c + 8 * quar c a)]) {w : FVec F S256x1024 .f32} (hw : w = eq4 m c (qF c a)) (f : OutC F)
    {inb : ∀ d, off d + S256x1024.size d ≤ S256x8192.size d}
    {hst : (oM.access (Rect.unit (s := S256x8192) off S256x1024.size inb)).Stores Finset.univ} {hm} :
    qP c a f ⊢ iprop((qP c a (G m c) -∗ run c (k ⟨⟩) Q)
      -∗ run c (.op (.store oM (Rect.unit (s := S256x8192) off S256x1024.size inb) w Finset.univ hst hm) k) Q) := by
  subst hw
  rw [← stored_quarter m c a hoff inb f]
  unfold qP
  iintro H Hk
  iapply (wp_store 𝒱₀ (c : Thread nD τ) none Set.univ (m := oM) (r := Rect.unit (s := S256x8192) off S256x1024.size inb) (Mk := Finset.univ)
    (S := cols (128 * (own c + 8 * quar c a)) 1024) (by rw [← quarter_set c a hoff inb]; exact (View.set_slice_whole _ _).le)) $$ H; iintro H
  iapply Hk $$ H

end Cert.KernelIdeal.Soft

end
-- ==== Proof.KernelIdeal.Middle.lean ====
/-
# The parts of the kernel between the barrier and the end
-/
module

public import proofs.«01_k».proof.Proof.KernelIdeal.Parts

@[expose] public section

set_option maxRecDepth 100000

noncomputable section

namespace Cert.KernelIdeal.Soft

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)
variable {hx : (xM).IsWhole} {hw : (wM).IsWhole} {ho : (oM).IsWhole}

/-! ## The device numbers: each copy goes to its neighbour -/

/-- The device numbers that the kernel computes for its copies, in the order of their names. -/
def dests (c : Dev nD) : I → ℕ :=
  ![k0_dev4 c, k0_dev5 c, k0_dev6 c, k0_dev7 c, k0_dev8 c, k0_dev9 c, k0_dev10 c, k0_dev11 c, k0_dev12 c,
    k0_dev13 c, k0_dev14 c, k0_dev15 c, k0_dev17 c, k0_dev19 c, k0_dev21 c, k0_dev23 c, k0_dev25 c, k0_dev27 c,
    k0_dev29 c, k0_dev31 c, k0_dev32 c, k0_dev33 c, k0_dev16 c, k0_dev18 c, k0_dev20 c, k0_dev22 c,
    k0_dev24 c, k0_dev26 c, k0_dev28 c, k0_dev30 c, k0_dev34 c, k0_dev35 c]
/-- Every copy goes to its neighbour. -/
theorem dest (i : I) (c : Dev nD) : dests c i = (peer i c).val := by revert i c; decide +kernel

/-! ## The stretches of received blocks -/

/-- The stretches of received blocks that are loaded: each by the copy of its first block and its number of blocks. -/
def stretches : List (I × ℕ) := [(0, 8), (8, 3), (22, 8), (11, 8), (30, 2), (19, 3)]
/-- In a stretch the blocks follow one another as their copies do. -/
theorem follow (c : Dev nD) : ∀ s ∈ stretches, ∀ i : I, s.1.val ≤ i.val → i.val < s.1.val + s.2 → rch i c = rch s.1 c + (i.val - s.1.val) := by
  revert c; decide +kernel

/-- What the stretch of 8 blocks from copy 0's on holds, as it is loaded. -/
abbrev ld12 : Vec F S256x1024 .f32 := oM.view.readAt (Elt F) (Rect.unit (s := S256x8192) (k0_off12 c) S256x1024.size (k0_off12_inb c)).toLoadRect (G m c)
/-- What the stretch of 3 blocks from copy 8's on holds, as it is loaded. -/
abbrev ld13 : Vec F S256x384 .f32 := oM.view.readAt (Elt F) (Rect.unit (s := S256x8192) (k0_off13 c) S256x384.size (k0_off13_inb c)).toLoadRect (G m c)
/-- What the stretch of 8 blocks from copy 22's on holds, as it is loaded. -/
abbrev ld15 : Vec F S256x1024 .f32 := oM.view.readAt (Elt F) (Rect.unit (s := S256x8192) (k0_off15 c) S256x1024.size (k0_off15_inb c)).toLoadRect (G m c)
/-- What the stretch of 8 blocks from copy 11's on holds, as it is loaded. -/
abbrev ld17 : Vec F S256x1024 .f32 := oM.view.readAt (Elt F) (Rect.unit (s := S256x8192) (k0_off17 c) S256x1024.size (k0_off17_inb c)).toLoadRect (G m c)
/-- What the stretch of 2 blocks from copy 30's on holds, as it is loaded. -/
abbrev ld18 : Vec F S256x256 .f32 := oM.view.readAt (Elt F) (Rect.unit (s := S256x8192) (k0_off18 c) S256x256.size (k0_off18_inb c)).toLoadRect (G m c)
/-- What the stretch of 3 blocks from copy 19's on holds, as it is loaded. -/
abbrev ld19 : Vec F S256x384 .f32 := oM.view.readAt (Elt F) (Rect.unit (s := S256x8192) (k0_off19 c) S256x384.size (k0_off19_inb c)).toLoadRect (G m c)

/-! ## The parts -/

/-- Part 5 of the kernel: of its copies, it sends 0, 1, 2. -/
theorem part5 {v2 v8 v22 v141 v142 : BitVec 32} (Kt : (Σ' (v175 : BitVec 32), BitVec 32) → sProp 𝕄) :
    iprop(At m K c 0 ∗ (At m K c 3 -∗ ∀ r, Kt r))
      ⊢ run c (k0_part5 xM hx wM hw oM ho cc0_scratch0 cc0_scratch1 cc0_scratch2 cc0_scratch3 cc0_scratch4 cc0_scratch5 c v2 v8 v22 v141 v142) Kt := by
  rw [k0_part5_eq_skeleton]; unfold k0_part5_skel
  simp only [Prog.lift, Prog.bind_op, Prog.bind_ret, Prog.pure_eq_ret]
  iintro ⟨Hs, Hk⟩
  iapply (at_send m K c 0 0 rfl (dest 0 c) (off3 c 0)) $$ Hs; iintro Hs
  iapply (at_send m K c 1 1 rfl (dest 1 c) (off3 c 1)) $$ Hs; iintro Hs
  iapply (at_send m K c 2 2 rfl (dest 2 c) (off3 c 2)) $$ Hs; iintro Hs
  unfold run; rw [wp_ret]; imodintro
  iapply Hk $$ Hs

/-- Part 6 of the kernel: of its copies, it sends 3, 4, 5. -/
theorem part6 {v2 v8 v22 v175 v176 : BitVec 32} (Kt : (Σ' (v210 : BitVec 32), BitVec 32) → sProp 𝕄) :
    iprop(At m K c 3 ∗ (At m K c 6 -∗ ∀ r, Kt r))
      ⊢ run c (k0_part6 xM hx wM hw oM ho cc0_scratch0 cc0_scratch1 cc0_scratch2 cc0_scratch3 cc0_scratch4 cc0_scratch5 c v2 v8 v22 v175 v176) Kt := by
  rw [k0_part6_eq_skeleton]; unfold k0_part6_skel
  simp only [Prog.lift, Prog.bind_op, Prog.bind_ret, Prog.pure_eq_ret]
  iintro ⟨Hs, Hk⟩
  iapply (at_send m K c 3 3 rfl (dest 3 c) (off3 c 3)) $$ Hs; iintro Hs
  iapply (at_send m K c 4 4 rfl (dest 4 c) (off3 c 4)) $$ Hs; iintro Hs
  iapply (at_send m K c 5 5 rfl (dest 5 c) (off3 c 5)) $$ Hs; iintro Hs
  unfold run; rw [wp_ret]; imodintro
  iapply Hk $$ Hs

/-- Part 10 of the kernel: of its copies, it sends 11, 22, receives 1. -/
theorem part10 {v2 v5 v8 v21 v22 v23 : BitVec 32} (Kt : (PUnit) → sProp 𝕄) :
    iprop(At m K c 13 ∗ (At m K c 16 -∗ Kt ⟨⟩))
      ⊢ run c (k0_part10 xM hx wM hw oM ho cc0_scratch0 cc0_scratch1 cc0_scratch2 cc0_scratch3 cc0_scratch4 cc0_scratch5 c v2 v5 v8 v21 v22 v23) Kt := by
  rw [k0_part10_eq_skeleton]; unfold k0_part10_skel
  simp only [Prog.lift, Prog.bind_op, Prog.bind_ret, Prog.pure_eq_ret]
  iintro ⟨Hs, Hk⟩
  iapply (at_send m K c 13 11 rfl (dest 11 c) (off11x c 0)) $$ Hs; iintro Hs
  iapply (at_send m K c 14 22 rfl (dest 22 c) (off11z c 0)) $$ Hs; iintro Hs
  iapply (at_recv m K c 15 1 rfl) $$ Hs; iintro Hs
  unfold run; rw [wp_ret]; imodintro
  iapply Hk $$ Hs

/-- Part 11 of the kernel: of its copies, it sends 12, 23, receives 2. -/
theorem part11 {v2 v5 v8 v21 v22 v23 : BitVec 32} (Kt : (Σ' (v384 : BitVec 32), BitVec 32) → sProp 𝕄) :
    iprop(At m K c 16 ∗ (At m K c 19 -∗ ∀ r, Kt r))
      ⊢ run c (k0_part11 xM hx wM hw oM ho cc0_scratch0 cc0_scratch1 cc0_scratch2 cc0_scratch3 cc0_scratch4 cc0_scratch5 c v2 v5 v8 v21 v22 v23) Kt := by
  rw [k0_part11_eq_skeleton]; unfold k0_part11_skel
  simp only [Prog.lift, Prog.bind_op, Prog.bind_ret, Prog.pure_eq_ret]
  iintro ⟨Hs, Hk⟩
  iapply (at_send m K c 16 12 rfl (dest 12 c) (off11x c 1)) $$ Hs; iintro Hs
  iapply (at_send m K c 17 23 rfl (dest 23 c) (off11z c 1)) $$ Hs; iintro Hs
  iapply (at_recv m K c 18 2 rfl) $$ Hs; iintro Hs
  unfold run; rw [wp_ret]; imodintro
  iapply Hk $$ Hs

/-- Part 12 of the kernel: of its copies, it sends 13, 24, receives 3. -/
theorem part12 {v2 v5 v8 v21 v22 v23 v384 v385 : BitVec 32} (Kt : (Σ' (v418 : BitVec 32), BitVec 32) → sProp 𝕄) :
    iprop(At m K c 19 ∗ (At m K c 22 -∗ ∀ r, Kt r))
      ⊢ run c (k0_part12 xM hx wM hw oM ho cc0_scratch0 cc0_scratch1 cc0_scratch2 cc0_scratch3 cc0_scratch4 cc0_scratch5 c v2 v5 v8 v21 v22 v23 v384 v385) Kt := by
  rw [k0_part12_eq_skeleton]; unfold k0_part12_skel
  simp only [Prog.lift, Prog.bind_op, Prog.bind_ret, Prog.pure_eq_ret]
  iintro ⟨Hs, Hk⟩
  iapply (at_send m K c 19 13 rfl (dest 13 c) (off11x c 2)) $$ Hs; iintro Hs
  iapply (at_send m K c 20 24 rfl (dest 24 c) (off11z c 2)) $$ Hs; iintro Hs
  iapply (at_recv m K c 21 3 rfl) $$ Hs; iintro Hs
  unfold run; rw [wp_ret]; imodintro
  iapply Hk $$ Hs

/-- Part 13 of the kernel: of its copies, it sends 14, 25, receives 4. -/
theorem part13 {v2 v5 v8 v21 v22 v23 v418 c1_i32_247 : BitVec 32} (Kt : (BitVec 32) → sProp 𝕄) :
    iprop(At m K c 22 ∗ (At m K c 25 -∗ ∀ r, Kt r))
      ⊢ run c (k0_part13 xM hx wM hw oM ho cc0_scratch0 cc0_scratch1 cc0_scratch2 cc0_scratch3 cc0_scratch4 cc0_scratch5 c v2 v5 v8 v21 v22 v23 v418 c1_i32_247) Kt := by
  rw [k0_part13_eq_skeleton]; unfold k0_part13_skel
  simp only [Prog.lift, Prog.bind_op, Prog.bind_ret, Prog.pure_eq_ret]
  iintro ⟨Hs, Hk⟩
  iapply (at_send m K c 22 14 rfl (dest 14 c) (off11x c 3)) $$ Hs; iintro Hs
  iapply (at_send m K c 23 25 rfl (dest 25 c) (off11z c 3)) $$ Hs; iintro Hs
  iapply (at_recv m K c 24 4 rfl) $$ Hs; iintro Hs
  unfold run; rw [wp_ret]; imodintro
  iapply Hk $$ Hs

/-- Part 14 of the kernel: of its copies, it sends 15, 26, receives 5. -/
theorem part14 {v2 v5 v8 v21 v22 v23 v452 : BitVec 32} (Kt : (Σ' (v484 : BitVec 32), BitVec 32) → sProp 𝕄) :
    iprop(At m K c 25 ∗ (At m K c 28 -∗ ∀ r, Kt r))
      ⊢ run c (k0_part14 xM hx wM hw oM ho cc0_scratch0 cc0_scratch1 cc0_scratch2 cc0_scratch3 cc0_scratch4 cc0_scratch5 c v2 v5 v8 v21 v22 v23 v452) Kt := by
  rw [k0_part14_eq_skeleton]; unfold k0_part14_skel
  simp only [Prog.lift, Prog.bind_op, Prog.bind_ret, Prog.pure_eq_ret]
  iintro ⟨Hs, Hk⟩
  iapply (at_send m K c 25 15 rfl (dest 15 c) (off11x c 4)) $$ Hs; iintro Hs
  iapply (at_send m K c 26 26 rfl (dest 26 c) (off11z c 4)) $$ Hs; iintro Hs
  iapply (at_recv m K c 27 5 rfl) $$ Hs; iintro Hs
  unfold run; rw [wp_ret]; imodintro
  iapply Hk $$ Hs

/-- Part 15 of the kernel: of its copies, it sends 16, 27, receives 6. -/
theorem part15 {v2 v5 v8 v21 v22 v23 v484 v485 : BitVec 32} (Kt : (Σ' (v518 : BitVec 32), BitVec 32) → sProp 𝕄) :
    iprop(At m K c 28 ∗ (At m K c 31 -∗ ∀ r, Kt r))
      ⊢ run c (k0_part15 xM hx wM hw oM ho cc0_scratch0 cc0_scratch1 cc0_scratch2 cc0_scratch3 cc0_scratch4 cc0_scratch5 c v2 v5 v8 v21 v22 v23 v484 v485) Kt := by
  rw [k0_part15_eq_skeleton]; unfold k0_part15_skel
  simp only [Prog.lift, Prog.bind_op, Prog.bind_ret, Prog.pure_eq_ret]
  iintro ⟨Hs, Hk⟩
  iapply (at_send m K c 28 16 rfl (dest 16 c) (off11x c 5)) $$ Hs; iintro Hs
  iapply (at_send m K c 29 27 rfl (dest 27 c) (off11z c 5)) $$ Hs; iintro Hs
  iapply (at_recv m K c 30 6 rfl) $$ Hs; iintro Hs
  unfold run; rw [wp_ret]; imodintro
  iapply Hk $$ Hs

/-- Part 16 of the kernel: of its copies, it sends 17, 28, receives 7. -/
theorem part16 {v2 v5 v8 v21 v22 v23 v518 c4_i32_318 : BitVec 32} (Kt : (BitVec 32) → sProp 𝕄) :
    iprop(At m K c 31 ∗ (At m K c 34 -∗ ∀ r, Kt r))
      ⊢ run c (k0_part16 xM hx wM hw oM ho cc0_scratch0 cc0_scratch1 cc0_scratch2 cc0_scratch3 cc0_scratch4 cc0_scratch5 c v2 v5 v8 v21 v22 v23 v518 c4_i32_318) Kt := by
  rw [k0_part16_eq_skeleton]; unfold k0_part16_skel
  simp only [Prog.lift, Prog.bind_op, Prog.bind_ret, Prog.pure_eq_ret]
  iintro ⟨Hs, Hk⟩
  iapply (at_send m K c 31 17 rfl (dest 17 c) (off11x c 6)) $$ Hs; iintro Hs
  iapply (at_send m K c 32 28 rfl (dest 28 c) (off11z c 6)) $$ Hs; iintro Hs
  iapply (at_recv m K c 33 7 rfl) $$ Hs; iintro Hs
  unfold run; rw [wp_ret]; imodintro
  iapply Hk $$ Hs

/-- Part 17 of the kernel: of its copies, it sends 18, 29, and adds a stretch of received blocks to the sums. -/
theorem part17 {v2 v5 v8 v21 v22 v26 v29 v552 : BitVec 32} {v302 : FVec F S256x1 .f32} (Kt : (FVec F S256x1 .f32) → sProp 𝕄) :
    iprop(At m K c 34 ∗ (At m K c 36 -∗ Kt (k0_pay10 v302 (ld12 m c))))
      ⊢ run c (k0_part17 xM hx wM hw oM ho cc0_scratch0 cc0_scratch1 cc0_scratch2 cc0_scratch3 cc0_scratch4 cc0_scratch5 c v2 v5 v8 v21 v22 v26 v29 v302 v552) Kt := by
  rw [k0_part17_eq_skeleton]; unfold k0_part17_skel
  simp only [Prog.lift, Prog.bind_op, Prog.bind_ret, Prog.pure_eq_ret]
  iintro ⟨Hs, Hk⟩
  iapply (at_send m K c 34 18 rfl (dest 18 c) (off11x c 7)) $$ Hs; iintro Hs
  iapply (at_send m K c 35 29 rfl (dest 29 c) (off11z c 7)) $$ Hs; iintro Hs
  iapply (at_load m K c 36 0 8 (rch 0 c) (by decide) (by decide +kernel) (follow c (0, 8) (by decide)) (off12 c) (show S256x1024.size = ![256, 128 * 8] from rfl)) $$ Hs; iintro Hs
  unfold run; rw [wp_ret]; imodintro
  iapply Hk $$ Hs

/-- Part 18 of the kernel: of its copies, it receives 8, 9, 10, and adds a stretch of received blocks to the sums. -/
theorem part18 {v2 v5 v8 v22 v26 v34 : BitVec 32} {v581 : FVec F S256x1 .f32} (Kt : (Σ' (v618 : FVec F S256x1 .f32), BitVec 32) → sProp 𝕄) :
    iprop(At m K c 36 ∗ (At m K c 39 -∗ ∀ w, Kt ⟨k0_pay11 v581 (ld13 m c), w⟩))
      ⊢ run c (k0_part18 xM hx wM hw oM ho cc0_scratch0 cc0_scratch1 cc0_scratch2 cc0_scratch3 cc0_scratch4 cc0_scratch5 c v2 v5 v8 v22 v26 v34 v581) Kt := by
  rw [k0_part18_eq_skeleton]; unfold k0_part18_skel
  simp only [Prog.lift, Prog.bind_op, Prog.bind_ret, Prog.pure_eq_ret]
  iintro ⟨Hs, Hk⟩
  iapply (at_recv m K c 36 8 rfl) $$ Hs; iintro Hs
  iapply (at_recv m K c 37 9 rfl) $$ Hs; iintro Hs
  iapply (at_recv m K c 38 10 rfl) $$ Hs; iintro Hs
  iapply (at_load m K c 39 8 3 (rch 8 c) (by decide) (by decide +kernel) (follow c (8, 3) (by decide)) (off13 c) (show S256x384.size = ![256, 128 * 3] from rfl)) $$ Hs; iintro Hs
  unfold run; rw [wp_ret]; imodintro
  iapply Hk $$ Hs

/-- Part 19 of the kernel: of its copies, it receives 22, 23, 24. -/
theorem part19 {v2 v5 v21 v622 : BitVec 32} (Kt : (PUnit) → sProp 𝕄) :
    iprop(At m K c 39 ∗ (At m K c 42 -∗ Kt ⟨⟩))
      ⊢ run c (k0_part19 xM hx wM hw oM ho cc0_scratch0 cc0_scratch1 cc0_scratch2 cc0_scratch3 cc0_scratch4 cc0_scratch5 c v2 v5 v21 v622) Kt := by
  rw [k0_part19_eq_skeleton]; unfold k0_part19_skel
  simp only [Prog.lift, Prog.bind_op, Prog.bind_ret, Prog.pure_eq_ret]
  iintro ⟨Hs, Hk⟩
  iapply (at_recv m K c 39 22 rfl) $$ Hs; iintro Hs
  iapply (at_recv m K c 40 23 rfl) $$ Hs; iintro Hs
  iapply (at_recv m K c 41 24 rfl) $$ Hs; iintro Hs
  unfold run; rw [wp_ret]; imodintro
  iapply Hk $$ Hs

/-- Part 20 of the kernel: of its copies, it sends 19, receives 25, 26. -/
theorem part20 {v2 v5 v8 v21 v23 : BitVec 32} (Kt : (PUnit) → sProp 𝕄) :
    iprop(At m K c 42 ∗ (At m K c 45 -∗ Kt ⟨⟩))
      ⊢ run c (k0_part20 xM hx wM hw oM ho cc0_scratch0 cc0_scratch1 cc0_scratch2 cc0_scratch3 cc0_scratch4 cc0_scratch5 c v2 v5 v8 v21 v23) Kt := by
  rw [k0_part20_eq_skeleton]; unfold k0_part20_skel
  simp only [Prog.lift, Prog.bind_op, Prog.bind_ret, Prog.pure_eq_ret]
  iintro ⟨Hs, Hk⟩
  iapply (at_recv m K c 42 25 rfl) $$ Hs; iintro Hs
  iapply (at_send m K c 43 19 rfl (dest 19 c) (off14 c 0)) $$ Hs; iintro Hs
  iapply (at_recv m K c 44 26 rfl) $$ Hs; iintro Hs
  unfold run; rw [wp_ret]; imodintro
  iapply Hk $$ Hs

/-- Part 21 of the kernel: of its copies, it sends 20, 21, receives 27. -/
theorem part21 {v2 v5 v8 v21 v23 : BitVec 32} (Kt : (PUnit) → sProp 𝕄) :
    iprop(At m K c 45 ∗ (At m K c 48 -∗ Kt ⟨⟩))
      ⊢ run c (k0_part21 xM hx wM hw oM ho cc0_scratch0 cc0_scratch1 cc0_scratch2 cc0_scratch3 cc0_scratch4 cc0_scratch5 c v2 v5 v8 v21 v23) Kt := by
  rw [k0_part21_eq_skeleton]; unfold k0_part21_skel
  simp only [Prog.lift, Prog.bind_op, Prog.bind_ret, Prog.pure_eq_ret]
  iintro ⟨Hs, Hk⟩
  iapply (at_send m K c 45 20 rfl (dest 20 c) (off14 c 1)) $$ Hs; iintro Hs
  iapply (at_recv m K c 46 27 rfl) $$ Hs; iintro Hs
  iapply (at_send m K c 47 21 rfl (dest 21 c) (off14 c 2)) $$ Hs; iintro Hs
  unfold run; rw [wp_ret]; imodintro
  iapply Hk $$ Hs

/-- Part 22 of the kernel: of its copies, it receives 28, 29, 11, and adds a stretch of received blocks to the sums. -/
theorem part22 {v2 v5 v8 v21 v23 v26 v42 : BitVec 32} {v618 : FVec F S256x1 .f32} (Kt : (Σ' (v741 : FVec F S256x1 .f32), BitVec 32) → sProp 𝕄) :
    iprop(At m K c 48 ∗ (At m K c 51 -∗ ∀ w, Kt ⟨k0_pay12 v618 (ld15 m c), w⟩))
      ⊢ run c (k0_part22 xM hx wM hw oM ho cc0_scratch0 cc0_scratch1 cc0_scratch2 cc0_scratch3 cc0_scratch4 cc0_scratch5 c v2 v5 v8 v21 v23 v26 v42 v618) Kt := by
  rw [k0_part22_eq_skeleton]; unfold k0_part22_skel
  simp only [Prog.lift, Prog.bind_op, Prog.bind_ret, Prog.pure_eq_ret]
  iintro ⟨Hs, Hk⟩
  iapply (at_recv m K c 48 28 rfl) $$ Hs; iintro Hs
  iapply (at_recv m K c 49 29 rfl) $$ Hs; iintro Hs
  iapply (at_load m K c 50 22 8 (rch 22 c) (by decide) (by decide +kernel) (follow c (22, 8) (by decide)) (off15 c) (show S256x1024.size = ![256, 128 * 8] from rfl)) $$ Hs; iintro Hs
  iapply (at_recv m K c 50 11 rfl) $$ Hs; iintro Hs
  unfold run; rw [wp_ret]; imodintro
  iapply Hk $$ Hs

/-- Part 23 of the kernel: of its copies, it receives 12, 13, 14. -/
theorem part23 {v5 v8 v23 v753 : BitVec 32} (Kt : (BitVec 32) → sProp 𝕄) :
    iprop(At m K c 51 ∗ (At m K c 54 -∗ ∀ r, Kt r))
      ⊢ run c (k0_part23 xM hx wM hw oM ho cc0_scratch0 cc0_scratch1 cc0_scratch2 cc0_scratch3 cc0_scratch4 cc0_scratch5 c v5 v8 v23 v753) Kt := by
  rw [k0_part23_eq_skeleton]; unfold k0_part23_skel
  simp only [Prog.lift, Prog.bind_op, Prog.bind_ret, Prog.pure_eq_ret]
  iintro ⟨Hs, Hk⟩
  iapply (at_recv m K c 51 12 rfl) $$ Hs; iintro Hs
  iapply (at_recv m K c 52 13 rfl) $$ Hs; iintro Hs
  iapply (at_recv m K c 53 14 rfl) $$ Hs; iintro Hs
  unfold run; rw [wp_ret]; imodintro
  iapply Hk $$ Hs

/-- Part 24 of the kernel: of its copies, it receives 15, 16, 17. -/
theorem part24 {v2 v5 v8 v21 v23 v785 : BitVec 32} (Kt : (PUnit) → sProp 𝕄) :
    iprop(At m K c 54 ∗ (At m K c 57 -∗ Kt ⟨⟩))
      ⊢ run c (k0_part24 xM hx wM hw oM ho cc0_scratch0 cc0_scratch1 cc0_scratch2 cc0_scratch3 cc0_scratch4 cc0_scratch5 c v2 v5 v8 v21 v23 v785) Kt := by
  rw [k0_part24_eq_skeleton]; unfold k0_part24_skel
  simp only [Prog.lift, Prog.bind_op, Prog.bind_ret, Prog.pure_eq_ret]
  iintro ⟨Hs, Hk⟩
  iapply (at_recv m K c 54 15 rfl) $$ Hs; iintro Hs
  iapply (at_recv m K c 55 16 rfl) $$ Hs; iintro Hs
  iapply (at_recv m K c 56 17 rfl) $$ Hs; iintro Hs
  unfold run; rw [wp_ret]; imodintro
  iapply Hk $$ Hs

/-- Part 25 of the kernel: of its copies, it sends 30, 31, receives 18, and adds a stretch of received blocks to the sums. -/
theorem part25 {v2 v5 v8 v21 v23 v26 v38 : BitVec 32} {v741 : FVec F S256x1 .f32} (Kt : (FVec F S256x1 .f32) → sProp 𝕄) :
    iprop(At m K c 57 ∗ (At m K c 60 -∗ Kt (k0_pay13 v741 (ld17 m c))))
      ⊢ run c (k0_part25 xM hx wM hw oM ho cc0_scratch0 cc0_scratch1 cc0_scratch2 cc0_scratch3 cc0_scratch4 cc0_scratch5 c v2 v5 v8 v21 v23 v26 v38 v741) Kt := by
  rw [k0_part25_eq_skeleton]; unfold k0_part25_skel
  simp only [Prog.lift, Prog.bind_op, Prog.bind_ret, Prog.pure_eq_ret]
  iintro ⟨Hs, Hk⟩
  iapply (at_send m K c 57 30 rfl (dest 30 c) (off16 c 0)) $$ Hs; iintro Hs
  iapply (at_recv m K c 58 18 rfl) $$ Hs; iintro Hs
  iapply (at_send m K c 59 31 rfl (dest 31 c) (off16 c 1)) $$ Hs; iintro Hs
  iapply (at_load m K c 60 11 8 (rch 11 c) (by decide) (by decide +kernel) (follow c (11, 8) (by decide)) (off17 c) (show S256x1024.size = ![256, 128 * 8] from rfl)) $$ Hs; iintro Hs
  unfold run; rw [wp_ret]; imodintro
  iapply Hk $$ Hs

/-- Part 26 of the kernel: of its copies, it receives 30, 31, and adds a stretch of received blocks to the sums. -/
theorem part26 {v2 v5 v8 v21 v23 v26 v34 : BitVec 32} {v852 : FVec F S256x1 .f32} (Kt : (FVec F S256x1 .f32) → sProp 𝕄) :
    iprop(At m K c 60 ∗ (At m K c 62 -∗ Kt (k0_pay14 v852 (ld18 m c))))
      ⊢ run c (k0_part26 xM hx wM hw oM ho cc0_scratch0 cc0_scratch1 cc0_scratch2 cc0_scratch3 cc0_scratch4 cc0_scratch5 c v2 v5 v8 v21 v23 v26 v34 v852) Kt := by
  rw [k0_part26_eq_skeleton]; unfold k0_part26_skel
  simp only [Prog.lift, Prog.bind_op, Prog.bind_ret, Prog.pure_eq_ret]
  iintro ⟨Hs, Hk⟩
  iapply (at_recv m K c 60 30 rfl) $$ Hs; iintro Hs
  iapply (at_recv m K c 61 31 rfl) $$ Hs; iintro Hs
  iapply (at_load m K c 62 30 2 (rch 30 c) (by decide) (by decide +kernel) (follow c (30, 2) (by decide)) (off18 c) (show S256x256.size = ![256, 128 * 2] from rfl)) $$ Hs; iintro Hs
  unfold run; rw [wp_ret]; imodintro
  iapply Hk $$ Hs

/-- Part 27 of the kernel: of its copies, it receives 19, 20, 21, and adds a stretch of received blocks to the sums. -/
theorem part27 {v5 v8 v23 v26 v34 : BitVec 32} {v880 : FVec F S256x1 .f32} (Kt : (FVec F S256x1 .f32) → sProp 𝕄) :
    iprop(At m K c 62 ∗ (At m K c 65 -∗ Kt (k0_pay15 v880 (ld19 m c))))
      ⊢ run c (k0_part27 xM hx wM hw oM ho cc0_scratch0 cc0_scratch1 cc0_scratch2 cc0_scratch3 cc0_scratch4 cc0_scratch5 c v5 v8 v23 v26 v34 v880) Kt := by
  rw [k0_part27_eq_skeleton]; unfold k0_part27_skel
  simp only [Prog.lift, Prog.bind_op, Prog.bind_ret, Prog.pure_eq_ret]
  iintro ⟨Hs, Hk⟩
  iapply (at_recv m K c 62 19 rfl) $$ Hs; iintro Hs
  iapply (at_recv m K c 63 20 rfl) $$ Hs; iintro Hs
  iapply (at_recv m K c 64 21 rfl) $$ Hs; iintro Hs
  iapply (at_load m K c 65 19 3 (rch 19 c) (by decide) (by decide +kernel) (follow c (19, 3) (by decide)) (off19 c) (show S256x384.size = ![256, 128 * 3] from rfl)) $$ Hs; iintro Hs
  unfold run; rw [wp_ret]; imodintro
  iapply Hk $$ Hs

/-- Part 28 of the kernel: of its copies, it awaits the end of 0, 1, 2, 3, 4, 5. -/
theorem part28 (Kt : (PUnit) → sProp 𝕄) :
    iprop(At m K c 65 ∗ (At m K c 71 -∗ Kt ⟨⟩))
      ⊢ run c (k0_part28 xM hx wM hw oM ho cc0_scratch0 cc0_scratch1 cc0_scratch2 cc0_scratch3 cc0_scratch4 cc0_scratch5 c) Kt := by
  rw [k0_part28_eq_skeleton]; unfold k0_part28_skel
  simp only [Prog.lift, Prog.bind_op, Prog.bind_ret, Prog.pure_eq_ret]
  iintro ⟨Hs, Hk⟩
  iapply (at_ret m K c 65 0 rfl) $$ Hs; iintro Hs
  iapply (at_ret m K c 66 1 rfl) $$ Hs; iintro Hs
  iapply (at_ret m K c 67 2 rfl) $$ Hs; iintro Hs
  iapply (at_ret m K c 68 3 rfl) $$ Hs; iintro Hs
  iapply (at_ret m K c 69 4 rfl) $$ Hs; iintro Hs
  iapply (at_ret m K c 70 5 rfl) $$ Hs; iintro Hs
  unfold run; rw [wp_ret]; imodintro
  iapply Hk $$ Hs

/-- Part 29 of the kernel: of its copies, it awaits the end of 6, 7, 8, 9, 10, 11. -/
theorem part29 (Kt : (PUnit) → sProp 𝕄) :
    iprop(At m K c 71 ∗ (At m K c 77 -∗ Kt ⟨⟩))
      ⊢ run c (k0_part29 xM hx wM hw oM ho cc0_scratch0 cc0_scratch1 cc0_scratch2 cc0_scratch3 cc0_scratch4 cc0_scratch5 c) Kt := by
  rw [k0_part29_eq_skeleton]; unfold k0_part29_skel
  simp only [Prog.lift, Prog.bind_op, Prog.bind_ret, Prog.pure_eq_ret]
  iintro ⟨Hs, Hk⟩
  iapply (at_ret m K c 71 6 rfl) $$ Hs; iintro Hs
  iapply (at_ret m K c 72 7 rfl) $$ Hs; iintro Hs
  iapply (at_ret m K c 73 8 rfl) $$ Hs; iintro Hs
  iapply (at_ret m K c 74 9 rfl) $$ Hs; iintro Hs
  iapply (at_ret m K c 75 10 rfl) $$ Hs; iintro Hs
  iapply (at_ret m K c 76 11 rfl) $$ Hs; iintro Hs
  unfold run; rw [wp_ret]; imodintro
  iapply Hk $$ Hs

/-- Part 30 of the kernel: of its copies, it awaits the end of 12, 13, 14, 15, 16, 17. -/
theorem part30 (Kt : (PUnit) → sProp 𝕄) :
    iprop(At m K c 77 ∗ (At m K c 83 -∗ Kt ⟨⟩))
      ⊢ run c (k0_part30 xM hx wM hw oM ho cc0_scratch0 cc0_scratch1 cc0_scratch2 cc0_scratch3 cc0_scratch4 cc0_scratch5 c) Kt := by
  rw [k0_part30_eq_skeleton]; unfold k0_part30_skel
  simp only [Prog.lift, Prog.bind_op, Prog.bind_ret, Prog.pure_eq_ret]
  iintro ⟨Hs, Hk⟩
  iapply (at_ret m K c 77 12 rfl) $$ Hs; iintro Hs
  iapply (at_ret m K c 78 13 rfl) $$ Hs; iintro Hs
  iapply (at_ret m K c 79 14 rfl) $$ Hs; iintro Hs
  iapply (at_ret m K c 80 15 rfl) $$ Hs; iintro Hs
  iapply (at_ret m K c 81 16 rfl) $$ Hs; iintro Hs
  iapply (at_ret m K c 82 17 rfl) $$ Hs; iintro Hs
  unfold run; rw [wp_ret]; imodintro
  iapply Hk $$ Hs

/-- Part 31 of the kernel: of its copies, it awaits the end of 18, 19, 20, 21, 22, 23. -/
theorem part31 (Kt : (PUnit) → sProp 𝕄) :
    iprop(At m K c 83 ∗ (At m K c 89 -∗ Kt ⟨⟩))
      ⊢ run c (k0_part31 xM hx wM hw oM ho cc0_scratch0 cc0_scratch1 cc0_scratch2 cc0_scratch3 cc0_scratch4 cc0_scratch5 c) Kt := by
  rw [k0_part31_eq_skeleton]; unfold k0_part31_skel
  simp only [Prog.lift, Prog.bind_op, Prog.bind_ret, Prog.pure_eq_ret]
  iintro ⟨Hs, Hk⟩
  iapply (at_ret m K c 83 18 rfl) $$ Hs; iintro Hs
  iapply (at_ret m K c 84 19 rfl) $$ Hs; iintro Hs
  iapply (at_ret m K c 85 20 rfl) $$ Hs; iintro Hs
  iapply (at_ret m K c 86 21 rfl) $$ Hs; iintro Hs
  iapply (at_ret m K c 87 22 rfl) $$ Hs; iintro Hs
  iapply (at_ret m K c 88 23 rfl) $$ Hs; iintro Hs
  unfold run; rw [wp_ret]; imodintro
  iapply Hk $$ Hs

/-- Part 32 of the kernel: of its copies, it awaits the end of 24, 25, 26, 27, 28, 29. -/
theorem part32 (Kt : (PUnit) → sProp 𝕄) :
    iprop(At m K c 89 ∗ (At m K c 95 -∗ Kt ⟨⟩))
      ⊢ run c (k0_part32 xM hx wM hw oM ho cc0_scratch0 cc0_scratch1 cc0_scratch2 cc0_scratch3 cc0_scratch4 cc0_scratch5 c) Kt := by
  rw [k0_part32_eq_skeleton]; unfold k0_part32_skel
  simp only [Prog.lift, Prog.bind_op, Prog.bind_ret, Prog.pure_eq_ret]
  iintro ⟨Hs, Hk⟩
  iapply (at_ret m K c 89 24 rfl) $$ Hs; iintro Hs
  iapply (at_ret m K c 90 25 rfl) $$ Hs; iintro Hs
  iapply (at_ret m K c 91 26 rfl) $$ Hs; iintro Hs
  iapply (at_ret m K c 92 27 rfl) $$ Hs; iintro Hs
  iapply (at_ret m K c 93 28 rfl) $$ Hs; iintro Hs
  iapply (at_ret m K c 94 29 rfl) $$ Hs; iintro Hs
  unfold run; rw [wp_ret]; imodintro
  iapply Hk $$ Hs

end Cert.KernelIdeal.Soft

end
-- ==== Proof.KernelIdeal.Computed.lean ====
/-
# The parts of the kernel in which a device computes its own exponentials
-/
module

public import proofs.«01_k».proof.Proof.KernelIdeal.Middle

@[expose] public section

set_option maxRecDepth 100000

noncomputable section

namespace Cert.KernelIdeal.Soft

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)
variable {hx : (xM).IsWhole} {hw : (wM).IsWhole} {ho : (oM).IsWhole}

/-! ## From the computed quarters to the account -/

/-- The account's start, without the first quarter: what is known, what is owed, what the copies to send and to receive need. -/
def At0 : sProp 𝕄 :=
  iprop(records m K ∗ (∃ W, owes (c : Thread nD τ) (debt c sendOrder) W) ∗ held (fun _ => true) (Tk c) ∗ held (fun _ => true) (Rc c))

omit [FloatOps F] in
/-- Nothing marked, nothing held. -/
theorem held_none {A : Type} [Fintype A] [DecidableEq A] (Φ : A → sProp 𝕄) : held (fun _ => false) Φ = iprop(emp) := by
  unfold held; rw [Finset.filter_false_of_mem (by simp)]; exact bigSep_empty

/-- The own blocks a device sends, among all blocks: those of the first quarter, -/
theorem chunk_first (i : I) (h : i.val < 8) : chunk i c = own c + 8 * quar c 0 + i.val := if_pos h
/-- and the three of the opposite quarter. -/
theorem chunk_opp (i : I) (h : 8 ≤ i.val) (h' : i.val < 11) : chunk i c = own c + 8 * quar c 1 + (i.val - 8) := (if_neg (by omega)).trans (if_pos h')

/-- Blocks that follow one another. -/
theorem row_join (lo n a : ℕ) (hn : lo + n ≤ 32) (h : ∀ i : I, lo ≤ i.val → i.val < lo + n → chunk i c = a + (i.val - lo)) (f : OutC F) :
    (bigSep (Finset.univ.filter fun i : I => lo ≤ i.val ∧ i.val < lo + n) fun i => (oL c ↦[cols (128 * chunk i c) 128]{fullShare} f : sProp 𝕄))
      = (oL c ↦[cols (128 * a) (128 * n)]{fullShare} f : sProp 𝕄) := by
  refine blocks_join c 128 (by decide) _ (fun i => chunk i c) a n (fun i hi => ?_) (fun i hi j hj e => Fin.ext ?_) (fun j h1 h2 => ?_) fullShare f
  · rw [Finset.mem_filter] at hi
    have := h i hi.2.1 hi.2.2; omega
  · rw [Finset.mem_filter] at hi hj
    have h1 := h i hi.2.1 hi.2.2
    have h2 := h j hj.2.1 hj.2.2
    omega
  · refine ⟨⟨lo + (j - a), by omega⟩, Finset.mem_filter.mpr ⟨Finset.mem_univ _, Nat.le_add_right _ _, ?_⟩, ?_⟩
    · show lo + (j - a) < lo + n; omega
    · have e := h ⟨lo + (j - a), by omega⟩ (Nat.le_add_right _ _) (by show lo + (j - a) < lo + n; omega)
      rw [e]; show a + (lo + (j - a) - lo) = j; omega

/-- The blocks of the first quarter. -/
theorem quarter0 : bigSep (Finset.univ.filter fun p : P => decide (p.1 = 0 ∧ p.2.val < 8) = true) (Pc m c) = qP c 0 (G m c) := by
  rw [show (Finset.univ.filter fun p : P => decide (p.1 = 0 ∧ p.2.val < 8) = true)
    = (Finset.univ.filter fun i : I => 0 ≤ i.val ∧ i.val < 0 + 8).map ⟨fun i => ((0 : Fin 4), i), fun _ _ h => (Prod.mk.inj h).2⟩ from by decide +kernel, bigSep_map]
  exact Eq.trans (bigSep_congr fun i _ => Pc_own m c i)
    (row_join c 0 8 (own c + 8 * quar c 0) (by decide) (fun i _ h => chunk_first c i (by omega)) (G m c))

/-- With the first quarter computed the account stands at its start. -/
theorem at_start : iprop(At0 m K c ∗ qP c 0 (G m c)) ⊢ At m K c 0 := by
  unfold At0 At State
  show _ ⊢ iprop(records m K ∗ (∃ W, owes (c : Thread nD τ) (debt c sendOrder) W) ∗ held (fun _ => true) (Tk c) ∗ held (fun _ => true) (Rc c) ∗ held (fun _ => false) (Sn c)
    ∗ bigSep (Finset.univ.filter fun p : P => decide (p.1 = 0 ∧ p.2.val < 8) = true) (Pc m c) ∗ held (fun _ => false) (Cl c))
  rw [held_none, held_none, quarter0]
  iintro ⟨⟨HR, HO, Ht, Hr⟩, Hq⟩
  isplitl [HR]; · iexact HR
  isplitl [HO]; · iexact HO
  isplitl [Ht]; · iexact Ht
  isplitl [Hr]; · iexact Hr
  isplitr; · iempintro
  isplitl [Hq]; · iexact Hq
  iempintro

/-- What of the opposite quarter is not sent. -/
def restP : sProp 𝕄 := oL c ↦[cols (128 * (own c + 8 * quar c 1 + 3)) 640]{fullShare} G m c

/-- The opposite quarter: the three blocks sent, and the rest. -/
theorem quarter1 : qP c 1 (G m c) ⊣⊢ iprop((Pc m c (0, 8) ∗ Pc m c (0, 9) ∗ Pc m c (0, 10)) ∗ restP m c) := by
  unfold qP restP
  have e : cols (128 * (own c + 8 * quar c 1)) 1024 = cols (128 * (own c + 8 * quar c 1)) 384 ∪ cols (128 * (own c + 8 * quar c 1 + 3)) 640 := by
    rw [show 128 * (own c + 8 * quar c 1 + 3) = 128 * (own c + 8 * quar c 1) + 384 from by omega, cols_union]
  have j := row_join (F := F) c 8 3 (own c + 8 * quar c 1) (by decide) (fun i h h' => chunk_opp c i h (by omega)) (G m c)
  rw [show (Finset.univ.filter fun i : I => 8 ≤ i.val ∧ i.val < 8 + 3) = {8, 9, 10} from by decide, bigSep_insert (by decide), bigSep_insert (by decide), bigSep_singleton] at j
  rw [e, Pc_own, Pc_own, Pc_own]
  unfold cp
  rw [show iprop((oL c ↦[cols (128 * chunk 8 c) 128]{fullShare} G m c) ∗ (oL c ↦[cols (128 * chunk 9 c) 128]{fullShare} G m c)
    ∗ (oL c ↦[cols (128 * chunk 10 c) 128]{fullShare} G m c)) = (oL c ↦[cols (128 * (own c + 8 * quar c 1)) 384]{fullShare} G m c : sProp 𝕄) from j]
  exact pointsTo_union (ℓ := oL c) (q := fullShare) (f := G m c) (cols_disjoint (Or.inl (by omega)))

/-- The blocks of the opposite quarter come to the account. -/
theorem at_own (n : ℕ) (hn : prog[n]? = some .own) :
    iprop((Pc m c (0, 8) ∗ Pc m c (0, 9) ∗ Pc m c (0, 10)) ∗ At m K c n) ⊢ At m K c (n + 1) := by
  unfold At
  iintro ⟨Hq, HR, Hs⟩
  isplitl [HR]; · iexact HR
  iapply (step_own m c n hn)
  isplitl [Hq]; · iexact Hq
  iexact Hs

/-! ## The parts -/

/-- Part 1 of the kernel reads the device's number. -/
theorem part1 (Kt : (Σ' (d0 : Dev nD) (v2 : BitVec 32) (v5 : BitVec 32) (v8 : BitVec 32) (v18 : BitVec 32) (v21 : BitVec 32) (v22 : BitVec 32) (v23 : BitVec 32) (v24 : BitVec 32) (v26 : BitVec 32) (v29 : BitVec 32), BitVec 32) → sProp 𝕄) :
    iprop(∀ v2 v5 v8 v18 v21 v22 v23 v24 v26 v29 v34, Kt ⟨c, v2, v5, v8, v18, v21, v22, v23, v24, v26, v29, v34⟩)
      ⊢ run c (k0_part1 xM hx wM hw oM ho cc0_scratch0 cc0_scratch1 cc0_scratch2 cc0_scratch3 cc0_scratch4 cc0_scratch5) Kt := by
  rw [k0_part1_eq_skeleton]; unfold k0_part1_skel
  simp only [Prog.lift, Prog.bind_op, Prog.bind_ret, Prog.pure_eq_ret]
  iintro Hk
  unfold run; rw [wp_deviceId, wp_ret]; imodintro
  iapply Hk

/-- Part 3 of the kernel computes words only. -/
theorem part3 {v24 v26 v29 v34 v42 : BitVec 32} (Kt : PUnit → sProp 𝕄) :
    Kt ⟨⟩ ⊢ run c (k0_part3 xM hx wM hw oM ho cc0_scratch0 cc0_scratch1 cc0_scratch2 cc0_scratch3 cc0_scratch4 cc0_scratch5 v24 v26 v29 v34 v42) Kt := by
  rw [k0_part3_eq_skeleton]; unfold k0_part3_skel
  simp only [Prog.lift, Prog.bind_op, Prog.bind_ret, Prog.pure_eq_ret]
  iintro Hk
  unfold run; rw [wp_ret]; imodintro; iexact Hk

/-- Part 4 of the kernel computes the first quarter. -/
theorem part4 {v2 v8 v22 v24 v26 v29 v38 : BitVec 32} (Kt : (Σ' (v127 : FVec F S256x512 .f32) (v137 : FVec F S256x1 .f32) (v141 : BitVec 32), BitVec 32) → sProp 𝕄) (f : OutC F) :
    iprop((At0 m K c ∗ xP m c ∗ wP m c ∗ qP c 0 f)
        ∗ ((At m K c 0 ∗ xP m c ∗ wP m c) -∗ ∀ w w', Kt ⟨k0_pay1 (xstg m c), k0_pay3 (xstg m c) (wq m c (qF c 0)), w, w'⟩))
      ⊢ run c (k0_part4 xM hx wM hw oM ho cc0_scratch0 cc0_scratch1 cc0_scratch2 cc0_scratch3 cc0_scratch4 cc0_scratch5 c v2 v8 v22 v24 v26 v29 v38) Kt := by
  rw [k0_part4_eq_skeleton]; unfold k0_part4_skel
  simp only [Prog.lift, Prog.bind_op, Prog.bind_ret, Prog.pure_eq_ret]
  iintro ⟨⟨Hs, Hx, Hw, Hq⟩, Hk⟩
  iapply (load_x m c) $$ Hx; iintro Hx
  iapply (load_W m c 0 (off1 c)) $$ Hw; iintro Hw
  iapply (load_quarter c 0 (off2 c) f) $$ Hq; iintro %v Hq
  iapply (store_quarter m c 0 (off2 c) rfl f) $$ Hq; iintro Hq
  ihave Hs := (at_start m K c) $$ [Hs Hq]
  · isplitl [Hs]; · iexact Hs
    iexact Hq
  unfold run; rw [wp_ret]; imodintro
  iapply Hk $$ [Hs Hx Hw]
  isplitl [Hs]; · iexact Hs
  isplitl [Hx]; · iexact Hx
  iexact Hw

/-- Part 7 of the kernel sends copies 6 and 7 and computes the opposite quarter. -/
theorem part7 {v2 v8 v22 v24 v34 v210 c0_i32_116 : BitVec 32} {v137 : FVec F S256x1 .f32} (Kt : (Σ' (v244 : FVec F S256x1 .f32) (v246 : BitVec 32), BitVec 32) → sProp 𝕄) (f : OutC F) :
    iprop((At m K c 6 ∗ wP m c ∗ qP c 1 f)
        ∗ ((At m K c 9 ∗ wP m c ∗ restP m c) -∗ ∀ w w', Kt ⟨k0_pay5 (k0_pay1 (xstg m c)) v137 (wq m c (qF c 1)), w, w'⟩))
      ⊢ run c (k0_part7 xM hx wM hw oM ho cc0_scratch0 cc0_scratch1 cc0_scratch2 cc0_scratch3 cc0_scratch4 cc0_scratch5 c v2 v8 v22 v24 v34 (k0_pay1 (xstg m c)) v137 v210 c0_i32_116) Kt := by
  rw [k0_part7_eq_skeleton]; unfold k0_part7_skel
  simp only [Prog.lift, Prog.bind_op, Prog.bind_ret, Prog.pure_eq_ret]
  iintro ⟨⟨Hs, Hw, Hq⟩, Hk⟩
  iapply (at_send m K c 6 6 rfl (dest 6 c) (off3 c 6)) $$ Hs; iintro Hs
  iapply (at_send m K c 7 7 rfl (dest 7 c) (off3 c 7)) $$ Hs; iintro Hs
  iapply (load_W m c 1 (off4 c)) $$ Hw; iintro Hw
  iapply (load_quarter c 1 (off5 c) f) $$ Hq; iintro %v Hq
  iapply (store_quarter m c 1 (off5 c) rfl f) $$ Hq; iintro Hq
  ihave Hq := (quarter1 m c).1 $$ Hq
  icases Hq with ⟨Hq, Hrest⟩
  ihave Hs := (at_own m K c 8 rfl) $$ [Hs Hq]
  · isplitl [Hq]; · iexact Hq
    iexact Hs
  unfold run; rw [wp_ret]; imodintro
  iapply Hk $$ [Hs Hw Hrest]
  isplitl [Hs]; · iexact Hs
  isplitl [Hw]; · iexact Hw
  iexact Hrest

/-- Part 8 of the kernel sends copies 8, 9, 10 and loads the third quarter of `W`. -/
theorem part8 {v2 v8 v22 v38 v246 c4_i32_136 : BitVec 32} (Kt : FVec F S512x1024 .f32 → sProp 𝕄) :
    iprop((At m K c 9 ∗ wP m c) ∗ ((At m K c 12 ∗ wP m c) -∗ Kt (k0_pay6 (wq m c (qF c 2)))))
      ⊢ run c (k0_part8 xM hx wM hw oM ho cc0_scratch0 cc0_scratch1 cc0_scratch2 cc0_scratch3 cc0_scratch4 cc0_scratch5 c v2 v8 v22 v38 v246 c4_i32_136) Kt := by
  rw [k0_part8_eq_skeleton]; unfold k0_part8_skel
  simp only [Prog.lift, Prog.bind_op, Prog.bind_ret, Prog.pure_eq_ret]
  iintro ⟨⟨Hs, Hw⟩, Hk⟩
  iapply (at_send m K c 9 8 rfl (dest 8 c) (off6 c 0)) $$ Hs; iintro Hs
  iapply (at_send m K c 10 9 rfl (dest 9 c) (off6 c 1)) $$ Hs; iintro Hs
  iapply (at_send m K c 11 10 rfl (dest 10 c) (off6 c 2)) $$ Hs; iintro Hs
  iapply (load_W m c 2 (off7 c)) $$ Hw; iintro Hw
  unfold run; rw [wp_ret]; imodintro
  iapply Hk
  isplitl [Hs]; · iexact Hs
  iexact Hw

/-- Part 9 of the kernel computes the third and the fourth quarter and receives copy 0. -/
theorem part9 {v2 v5 v8 v22 v23 v24 v38 v42 : BitVec 32} {v244 : FVec F S256x1 .f32} (Kt : FVec F S256x1 .f32 → sProp 𝕄) (f : OutC F) :
    iprop((At m K c 12 ∗ wP m c ∗ qP c 2 f ∗ qP c 3 f)
        ∗ ((At m K c 13 ∗ wP m c ∗ qP c 2 (G m c) ∗ qP c 3 (G m c)) -∗ Kt (k0_pay9 (k0_pay1 (xstg m c)) v244 (k0_pay6 (wq m c (qF c 2))) (wq m c (qF c 3)))))
      ⊢ run c (k0_part9 xM hx wM hw oM ho cc0_scratch0 cc0_scratch1 cc0_scratch2 cc0_scratch3 cc0_scratch4 cc0_scratch5 c v2 v5 v8 v22 v23 v24 v38 v42 (k0_pay1 (xstg m c)) v244 (k0_pay6 (wq m c (qF c 2)))) Kt := by
  rw [k0_part9_eq_skeleton]; unfold k0_part9_skel
  simp only [Prog.lift, Prog.bind_op, Prog.bind_ret, Prog.pure_eq_ret]
  iintro ⟨⟨Hs, Hw, H2, H3⟩, Hk⟩
  iapply (load_quarter c 2 (off8 c) f) $$ H2; iintro %v H2
  iapply (store_quarter m c 2 (off8 c) rfl f) $$ H2; iintro H2
  iapply (load_W m c 3 (off9 c)) $$ Hw; iintro Hw
  iapply (load_quarter c 3 (off10 c) f) $$ H3; iintro %v' H3
  iapply (store_quarter m c 3 (off10 c) rfl f) $$ H3; iintro H3
  iapply (at_recv m K c 12 0 rfl) $$ Hs; iintro Hs
  unfold run; rw [wp_ret]; imodintro
  iapply Hk
  isplitl [Hs]; · iexact Hs
  isplitl [Hw]; · iexact Hw
  isplitl [H2]; · iexact H2
  iexact H3

end Cert.KernelIdeal.Soft

end
-- ==== Proof.KernelIdeal.Ends.lean ====
/-
# The barrier, and the result's buffer taken apart and put together

At the start a device owns its whole result buffer. It keeps the four quarters it computes and hands the 32 blocks the
copies fill to the neighbours that fill them, at the barrier. At the end all of it is back, holding all exponentials.
-/
module

public import proofs.«01_k».proof.Proof.KernelIdeal.Computed

@[expose] public section

set_option maxRecDepth 100000

noncomputable section

namespace Cert.KernelIdeal.Soft

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)
variable {hx : (xM).IsWhole} {hw : (wM).IsWhole} {ho : (oM).IsWhole}

/-! ## The buffer in pieces -/

omit [FloatOps F] in
/-- The copies direction by direction. -/
theorem by_dir (Φ : I → sProp 𝕄) : bigSep Finset.univ Φ = iprop(bigSep (Finset.univ.filter fun i : I => dir i = 0) Φ
    ∗ bigSep (Finset.univ.filter fun i : I => dir i = 1) Φ ∗ bigSep (Finset.univ.filter fun i : I => dir i = 2) Φ) := by
  rw [show (Finset.univ : Finset I) = (Finset.univ.filter fun i : I => dir i = 0) ∪ ((Finset.univ.filter fun i : I => dir i = 1) ∪ (Finset.univ.filter fun i : I => dir i = 2)) from by decide +kernel,
    bigSep_union (by decide +kernel), bigSep_union (by decide +kernel)]
  congr 1

/-- A device's names for the quarters name distinct ones, -/
theorem quar_inj (c : Dev nD) (a b : Fin 4) (h : quar c a = quar c b) : a = b := by revert c a b; decide +kernel
/-- and each of the four is one of them. -/
theorem quar_surj (c : Dev nD) (q : Fin 4) : ∃ a, quar c a = q.val := by revert c q; decide +kernel

omit [FloatOps F] in
/-- The half a device computes, by quarters. -/
theorem own_half (f : OutC F) : iprop(qP c 0 f ∗ qP c 1 f ∗ qP c 2 f ∗ qP c 3 f) = (oL c ↦[cols (128 * own c) 4096]{fullShare} f : sProp 𝕄) := by
  have ho : own c = 8 * (own c / 8) := by rcases own_or_oth c with h | h <;> omega
  have j := blocks_join (F := F) c 1024 (by decide) (Finset.univ : Finset (Fin 4)) (fun a => own c / 8 + quar c a) (own c / 8) 4
    (fun a _ => by have := quar_lt c a; omega) (fun a _ b _ h => quar_inj c a b (by omega))
    (fun q h1 h2 => by
      obtain ⟨a, ha⟩ := quar_surj c ⟨q - own c / 8, by omega⟩
      exact ⟨a, Finset.mem_univ _, by rw [ha]; show _ + (q - _) = q; omega⟩) fullShare f
  rw [show 1024 * (own c / 8) = 128 * own c from by omega] at j
  refine Eq.trans ?_ j
  rw [bigSep_congr (s := Finset.univ) (Ψ := fun a => qP c a f) (fun a _ => by unfold qP; rw [show 1024 * (own c / 8 + quar c a) = 128 * (own c + 8 * quar c a) from by omega]),
    bigSep_univ_eq_bigSepL [0, 1, 2, 3] (by decide) (by decide)]
  rfl

omit [FloatOps F] in
/-- The half a device receives, by blocks. -/
theorem oth_half (f : OutC F) : (bigSep Finset.univ fun i : I => cp c (rch i c) fullShare f) = (oL c ↦[cols (128 * oth c) 4096]{fullShare} f : sProp 𝕄) :=
  blocks_join c 128 (by decide) Finset.univ (fun i : I => rch i c) (oth c) 32 (fun i _ => rch_oth c i) (fun i _ j _ h => rch_inj c i j h)
    (fun j h1 h2 => by
      have hl : j < 64 := by rcases own_or_oth c with h | h <;> omega
      obtain ⟨i, hi⟩ := rch_surj c ⟨j, hl⟩ ⟨h1, h2⟩
      exact ⟨i, Finset.mem_univ _, hi⟩) fullShare f

omit [FloatOps F] in
/-- The whole buffer: the quarters computed and the blocks received. -/
theorem buffer (f : OutC F) : (oL c ↦{fullShare} f : sProp 𝕄)
    ⊣⊢ iprop((qP c 0 f ∗ qP c 1 f ∗ qP c 2 f ∗ qP c 3 f) ∗ bigSep Finset.univ fun i : I => cp c (rch i c) fullShare f) := by
  rw [own_half, oth_half]
  have e : (Finset.univ : Finset S256x8192.Idx) = cols (128 * own c) 4096 ∪ cols (128 * oth c) 4096 := by
    rw [← cols_all]
    rcases own_or_oth c with ⟨h, h'⟩ | ⟨h, h'⟩ <;> rw [h, h']
    · exact (cols_union (a := 0) (n := 4096) (k := 4096)).symm
    · rw [Finset.union_comm]; exact (cols_union (a := 0) (n := 4096) (k := 4096)).symm
  have u := pointsTo_union (Ix := Unit) (Name := ℕ) (U := UU) (Lvl := ℕ) (ℓ := oL c) (q := fullShare) (f := f) (I := cols (128 * own c) 4096) (J := cols (128 * oth c) 4096)
    (cols_disjoint (by rcases own_or_oth c with h | h <;> omega))
  rw [← e] at u
  exact u

/-! ## The barrier -/

omit [FloatOps F] in
/-- The blocks handed to the neighbour in a direction. -/
theorem hand (d : Fin 3) (f : OutC F) : (bigSep (Finset.univ.filter fun i : I => dir i = d) fun i => cp c (rch i c) fullShare f) ⊢ barPay (nb d c) d := by
  unfold barPay
  refine bigSep_mono fun i hi => ?_
  have e : dir i = d := (Finset.mem_filter.mp hi).2
  subst e
  show _ ⊢ iprop(∃ f : OutC F, cp (peer i (peer i c)) (chunk i (peer i c)) fullShare f)
  rw [peer_peer]
  iintro H; iexists f; iexact H

/-- The right to raise the two cells of a copy, and the position on the sender's. -/
def Tok (i : I) : sProp 𝕄 := iprop(dutyTok ER (sendCell c i) 0 0 ∗ dutyTok ER (recvCell (peer i c) i) 0 0 ∗ atPos ER (sendCell c i) 0 ∅ 0)

omit [FloatOps F] in
/-- With the blocks the neighbours hand over every copy can be sent. -/
theorem to_send : iprop(bigSep Finset.univ (Tok (F := F) c) ∗ barPay c 0 ∗ barPay c 1 ∗ barPay c 2) ⊢ held (fun _ => true) (Tk c) := by
  rw [held_all]
  unfold barPay
  rw [← by_dir]
  show iprop(bigSep Finset.univ (Tok (F := F) c) ∗ _) ⊢ bigSep Finset.univ fun i => iprop(Tok c i ∗ ∃ f : OutC F, cp (peer i c) (chunk i c) fullShare f)
  rw [bigSep_sep']

/-- The barrier's first signal goes to the other `y`, -/
theorem dev1_eq (c : Dev nD) : (⟨k0_dev1 c, k0_dev1_lt c⟩ : Dev nD) = yp c := by revert c; decide +kernel
/-- its second to the other `x`, -/
theorem dev2_eq (c : Dev nD) : (⟨k0_dev2 c, k0_dev2_lt c⟩ : Dev nD) = xn c := by revert c; decide +kernel
/-- its third to the other `z`. -/
theorem dev3_eq (c : Dev nD) : (⟨k0_dev3 c, k0_dev3_lt c⟩ : Dev nD) = zt c := by revert c; decide +kernel

/-- What the three neighbours hand over at the barrier. -/
theorem rest_bar : bigSep ((Rd (F := F) m).duties ((c : Thread nD τ), .reg barS) 0 \ ∅) (fun d => (Rd (F := F) m).payload ((c : Thread nD τ), .reg barS) 0 d)
    = iprop(barPay c 0 ∗ barPay c 1 ∗ barPay c 2) := by
  show bigSep ((Rd (F := F) m).duties (cell c none) 0 \ ∅) (fun d => (Rd (F := F) m).payload (cell c none) 0 d) = _
  rw [Finset.sdiff_empty, duties_cell, bigSep_congr (s := dut none) (fun d _ => payload_cell m c none d)]
  exact bigSep_univ_eq_bigSepL [0, 1, 2] (by decide) (by decide) _

/-- A neighbour's barrier is raised, with the blocks it fills. -/
theorem raise {α : Type} {Q : α → sProp 𝕄} {k : PUnit → Prog (TpuEff nD τ sig (Elt F) Λ₀ .tc) α} (d : Fin 3) (O : CellTallies nD τ sig Unit) (W : Waits sig Unit) :
    iprop(records m K ∗ owes (c : Thread nD τ) (O + tallyAt (barCell (nb d c)) () 1) W ∗ dutyTok ER (barCell (nb d c)) 0 d ∗ barPay (nb d c) d)
      ⊢ iprop((owes (c : Thread nD τ) O W -∗ run c (k ⟨⟩) Q) -∗ run c (.op (.semSignal ((nb d c : Dev nD) : Thread nD τ) barS 1) k) Q) := by
  iintro ⟨#HR, HO, Ht, Hp⟩ Hk
  ihave #HI := (rec_inv m K (nb d c) none) $$ HR
  ihave #Hr := (rec_reached m K (nb d c) none) $$ HR
  iapply (Rounds.wp_signal 𝒱₀ ER (Rd m) (c : Thread nD τ) none (dst := ((nb d c : Dev nD) : Thread nD τ)) (κ := K (nb d c, none))
      (by show d ∈ (Rd m).duties (cell (nb d c) none) 0; rw [duties_cell]; exact Finset.mem_univ _) (amount_cell m (nb d c) none d) () O rfl (W := W)) $$ [HO Ht Hp]
  · isplitr; · iexact HI
    isplitl [HO]; · iexact HO
    isplitl [Ht]; · iexact Ht
    isplitl [Hp]
    · iapply (Entails.of_eq (show barPay (nb d c) d = (Rd (F := F) m).payload (((nb d c : Dev nD) : Thread nD τ), .reg barS) 0 d from (payload_cell m (nb d c) none d).symm)); iexact Hp
    iexact Hr
  iexact Hk

/-- Part 2 of the kernel: the neighbours' barriers are raised, and the own one awaited. -/
theorem part2 {v2 v5 v8 v18 v21 v22 v23 v24 v29 : BitVec 32} (Kt : (Σ' (v38 : BitVec 32), BitVec 32) → sProp 𝕄) :
    iprop((records m K ∗ atPos ER (barCell c) 0 ∅ 0 ∗ cred (tallyAt (barCell c) () 3) ∗ (∃ W, owes (c : Thread nD τ) (O₀ c) W)
          ∗ (dutyTok ER (barCell (nb 0 c)) 0 0 ∗ barPay (nb 0 c) 0) ∗ (dutyTok ER (barCell (nb 1 c)) 0 1 ∗ barPay (nb 1 c) 1) ∗ (dutyTok ER (barCell (nb 2 c)) 0 2 ∗ barPay (nb 2 c) 2))
        ∗ ((semVal (barCell c) 0 ∗ (∃ W, owes (c : Thread nD τ) (debt c sendOrder) W) ∗ barPay c 0 ∗ barPay c 1 ∗ barPay c 2) -∗ ∀ r, Kt r))
      ⊢ run c (k0_part2 xM hx wM hw oM ho cc0_scratch0 cc0_scratch1 cc0_scratch2 cc0_scratch3 cc0_scratch4 cc0_scratch5 c v2 v5 v8 v18 v21 v22 v23 v24 v29) Kt := by
  rw [k0_part2_eq_skeleton]; unfold k0_part2_skel
  simp only [semSignalWord, semWaitWord, Prog.lift, Prog.bind_op, Prog.bind_ret, Prog.pure_eq_ret, dev1_eq c, dev2_eq c, dev3_eq c]
  iintro ⟨⟨#HR, Hat, Hc, ⟨%W, HO⟩, ⟨Ht0, Hp0⟩, ⟨Ht1, Hp1⟩, ⟨Ht2, Hp2⟩⟩, Hk⟩
  iapply (raise m K c 0 ((debt c sendOrder + tallyAt (barCell (zt c)) () 1) + tallyAt (barCell (xn c)) () 1) W) $$ [HO Ht0 Hp0]
  · isplitr; · iexact HR
    isplitl [HO]; · iexact HO
    isplitl [Ht0]; · iexact Ht0
    iexact Hp0
  iintro HO
  iapply (raise m K c 1 (debt c sendOrder + tallyAt (barCell (zt c)) () 1) W) $$ [HO Ht1 Hp1]
  · isplitr; · iexact HR
    isplitl [HO]; · iexact HO
    isplitl [Ht1]; · iexact Ht1
    iexact Hp1
  iintro HO
  iapply (raise m K c 2 (debt c sendOrder) W) $$ [HO Ht2 Hp2]
  · isplitr; · iexact HR
    isplitl [HO]; · iexact HO
    isplitl [Ht2]; · iexact Ht2
    iexact Hp2
  iintro HO
  ihave #HI := (rec_inv m K c none) $$ HR
  ihave #Hlev := (rec_lev m K) $$ HR
  unfold run
  iapply (Rounds.wp_wait_rest_token 𝒱₀ ER (Rd m) (c : Thread nD τ) none (κ := K (c, none))
      (wpE_semWait_eq 𝒱₀ (c : Thread nD τ) none Set.univ) (Set.mem_univ _) () (O := debt c sendOrder) (W := W) (R := 0) (m := 0) (T := ∅)
      (by rw [Nat.zero_add]; exact (expect_cell m c none).symm)) $$ [Hc HO Hat]
  · isplitr; · iexact HI
    isplitl [Hc]; · iexact Hc
    isplitl [HO]; · iexact HO
    isplitr
    · iapply (mayWait_debt c (.reg barS) 1 sendOrder (lv_cell c none ()) (fun i _ => rlev_pos i)); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (barCell c))) $$ [Hat] with Hz
  · isplitr; · iexact HI
    iexact Hat
  rw [wp_ret]; imodintro
  iapply Hk $$ [Hz HO Hp]
  isplitl [Hz]; · iexact Hz
  isplitl [HO]; · iexists _; iexact HO
  iexact Hp

/-! ## The end of the account -/

/-- A share of all received blocks. -/
def shares (a : Fin 4) : Finset P := (Finset.univ : Finset I).map ⟨fun i => (a, i), fun _ _ h => (Prod.mk.inj h).2⟩

/-- At the end every own block that was sent, and every share of every received block, is held. -/
theorem pcs_end : (Finset.univ.filter fun p : P => (stt 97).pcs p = true)
    = (Finset.univ.filter fun p : P => decide (p.1 = 0 ∧ p.2.val < 8) = true) ∪ ({(0, 8), (0, 9), (0, 10)} ∪ (shares 1 ∪ (shares 2 ∪ shares 3))) := by decide +kernel

/-- What is held then. -/
theorem pieces_end : held (stt 97).pcs (Pc m c) = iprop(qP c 0 (G m c) ∗ (Pc m c (0, 8) ∗ Pc m c (0, 9) ∗ Pc m c (0, 10))
    ∗ bigSep Finset.univ (fun i : I => Pc m c (1, i)) ∗ bigSep Finset.univ (fun i : I => Pc m c (2, i)) ∗ bigSep Finset.univ fun i : I => Pc m c (3, i)) := by
  unfold held
  rw [pcs_end, bigSep_union (by decide +kernel), bigSep_union (by decide +kernel), bigSep_union (by decide +kernel), bigSep_union (by decide +kernel), quarter0,
    bigSep_insert (by decide), bigSep_insert (by decide), bigSep_singleton]
  unfold shares
  rw [bigSep_map, bigSep_map, bigSep_map]
  rfl

/-- At the end of the account, with the rest of the computed quarters, the whole buffer holds all exponentials. -/
theorem buffer_end : iprop(held (stt 97).pcs (Pc m c) ∗ restP m c ∗ qP c 2 (G m c) ∗ qP c 3 (G m c)) ⊢ (oL c ↦{fullShare} G m c : sProp 𝕄) := by
  rw [pieces_end]
  iintro ⟨⟨H0, ⟨H8, H9, H10⟩, Hs⟩, Hr, H2, H3⟩
  ihave H1 := (quarter1 m c).2 $$ [H8 H9 H10 Hr]
  · isplitl [H8 H9 H10]
    · isplitl [H8]; · iexact H8
      isplitl [H9]; · iexact H9
      iexact H10
    iexact Hr
  iapply (buffer c (G m c)).2
  isplitl [H0 H1 H2 H3]
  · isplitl [H0]; · iexact H0
    isplitl [H1]; · iexact H1
    isplitl [H2]; · iexact H2
    iexact H3
  iapply (show iprop(bigSep Finset.univ (fun i : I => Pc m c (1, i)) ∗ bigSep Finset.univ (fun i : I => Pc m c (2, i)) ∗ bigSep Finset.univ fun i : I => Pc m c (3, i))
      ⊢ bigSep Finset.univ fun i : I => cp c (rch i c) fullShare (G m c) from by
    rw [← bigSep_sep', ← bigSep_sep']
    refine bigSep_mono fun i _ => ?_
    rw [Pc_kept m c 1 i (by decide), Pc_kept m c 2 i (by decide), Pc_kept m c 3 i (by decide)]
    exact (cp_shares c (rch i c) (G m c)).2)
  iexact Hs

/-- What the account gives back at the end. -/
theorem at_end : iprop(At m K c 97 ∗ restP m c ∗ qP c 2 (G m c) ∗ qP c 3 (G m c))
    ⊢ iprop((∃ W, owes (c : Thread nD τ) 0 W) ∗ bigSep Finset.univ (Cl c) ∗ (oL c ↦{fullShare} G m c)) := by
  unfold At State
  rw [show debt c (stt 97).snd = 0 from by rw [show (stt 97).snd = [] from by decide +kernel]; rfl,
    show (stt 97).cls = fun _ => true from funext (by decide +kernel), held_all]
  iintro ⟨⟨-, HO, -, -, -, Hp, Hc⟩, Hr, H2, H3⟩
  isplitl [HO]; · iexact HO
  isplitl [Hc]; · iexact Hc
  iapply (buffer_end m c)
  isplitl [Hp]; · iexact Hp
  isplitl [Hr]; · iexact Hr
  isplitl [H2]; · iexact H2
  iexact H3

end Cert.KernelIdeal.Soft

end
-- ==== Proof.KernelIdeal.Body.lean ====
/-
# The kernel on one device, from the barrier to the result
-/
module

public import proofs.«01_k».proof.Proof.KernelIdeal.Ends

@[expose] public section

set_option maxRecDepth 100000

noncomputable section

namespace Cert.KernelIdeal.Soft

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)
variable (K : Dev nD × CK → ℕ) (c : Dev nD)
variable {hx : (xM).IsWhole} {hw : (wM).IsWhole} {ho : (oM).IsWhole}

/-- The row sums over the half a device computes, quarter by quarter. -/
def ownSum : FVec F S256x1 .f32 :=
  k0_pay9 (k0_pay1 (xstg m c)) (k0_pay5 (k0_pay1 (xstg m c)) (k0_pay3 (xstg m c) (wq m c (qF c 0))) (wq m c (qF c 1))) (k0_pay6 (wq m c (qF c 2))) (wq m c (qF c 3))
/-- The sums of whole rows: the received blocks added stretch by stretch. -/
def allSum : FVec F S256x1 .f32 :=
  k0_pay15 (k0_pay14 (k0_pay13 (k0_pay12 (k0_pay11 (k0_pay10 (ownSum m c) (ld12 m c)) (ld13 m c)) (ld15 m c)) (ld17 m c)) (ld18 m c)) (ld19 m c)
/-- What a device's result holds at the end. -/
def outAt : OutC F := k0_pay16 (allSum m c) (G m c)

/-- What a device starts with, besides its buffers. -/
def startP : sProp 𝕄 :=
  iprop(records m K ∗ atPos ER (barCell c) 0 ∅ 0 ∗ cred (tallyAt (barCell c) () 3)
    ∗ (dutyTok ER (barCell (nb 0 c)) 0 0 ∗ dutyTok ER (barCell (nb 1 c)) 0 1 ∗ dutyTok ER (barCell (nb 2 c)) 0 2)
    ∗ bigSep Finset.univ (Tok (F := F) c) ∗ bigSep Finset.univ (Rc (F := F) c))
/-- What it ends with, besides its buffers. -/
def doneP : sProp 𝕄 := iprop(semVal (barCell c) 0 ∗ bigSep Finset.univ (Cl (F := F) c))

omit [FloatOps F] in
/-- The offset that is zero in both dimensions. -/
theorem zero2 : (![0, 0] : Fin 2 → ℕ) = fun _ => 0 := funext fun a => by fin_cases a <;> rfl

omit [FloatOps F] in
/-- The whole result is loaded. -/
theorem load_all {α : Type} {Q : α → sProp 𝕄} (f : OutC F) {inb} {hl : oM.view.LoadsAt (Rect.unit (s := S256x8192) ![0, 0] S256x8192.size inb).toLoadRect}
    {k : ((Rect.unit (s := S256x8192) ![0, 0] S256x8192.size inb).toLoadRect.shape.Idx → Elt F .f32) → Prog (TpuEff nD τ sig (Elt F) Λ₀ .tc) α} [FloatOps F] :
    (oL c ↦{fullShare} f : sProp 𝕄) ⊢ iprop(((oL c ↦{fullShare} f) -∗ run c (k f) Q) -∗ run c (.op (.load oM (Rect.unit (s := S256x8192) ![0, 0] S256x8192.size inb).toLoadRect hl) k) Q) := by
  iintro H Hk
  iapply (wp_load 𝒱₀ (c : Thread nD τ) none Set.univ (m := oM) (Finset.subset_univ _)) $$ H; iintro H
  rw [show oM.view.readAt (Elt F) (Rect.unit (s := S256x8192) ![0, 0] S256x8192.size inb).toLoadRect f = f from
    Memref.readAt_unit_zero (Elt F) cc0_stg2_0 zero2 inb f]
  iapply Hk $$ H

/-- The whole result is stored. -/
theorem store_all {α : Type} {Q : α → sProp 𝕄} (f w : OutC F) {inb : ∀ d, (![0, 0] : Fin 2 → ℕ) d + S256x8192.size d ≤ S256x8192.size d}
    {hst : (oM.access (Rect.unit (s := S256x8192) ![0, 0] S256x8192.size inb)).Stores Finset.univ} {hm}
    {k : PUnit → Prog (TpuEff nD τ sig (Elt F) Λ₀ .tc) α} :
    (oL c ↦{fullShare} f : sProp 𝕄) ⊢ iprop(((oL c ↦{fullShare} w) -∗ run c (k ⟨⟩) Q)
      -∗ run c (.op (.store oM (Rect.unit (s := S256x8192) ![0, 0] S256x8192.size inb) w Finset.univ hst hm) k) Q) := by
  iintro H Hk
  iapply (wp_store 𝒱₀ (c : Thread nD τ) none Set.univ (m := oM) (r := Rect.unit (s := S256x8192) ![0, 0] S256x8192.size inb) (Mk := Finset.univ) (Finset.subset_univ _)) $$ H; iintro H
  rw [show (oM.access (Rect.unit (s := S256x8192) ![0, 0] S256x8192.size inb)).write (Elt F) f w Finset.univ = w from
    Memref.write_access_unit_zero_univ (Elt F) cc0_stg2_0 zero2 inb f w]
  iapply Hk $$ H

set_option maxHeartbeats 4000000 in
/-- The kernel's body on device `c`: from the start to the result. -/
theorem body (Kt : PUnit → sProp 𝕄) :
    iprop((startP m K c ∗ (∃ W, owes (c : Thread nD τ) (O₀ c) W) ∗ xP m c ∗ wP m c ∗ ∃ f : OutC F, (oL c ↦{fullShare} f))
        ∗ ((doneP c ∗ (∃ W, owes (c : Thread nD τ) 0 W) ∗ xP m c ∗ wP m c ∗ (oL c ↦{fullShare} outAt m c)) -∗ Kt ⟨⟩))
      ⊢ run c (cc0_body xM hx wM hw oM ho cc0_scratch0 cc0_scratch1 cc0_scratch2 cc0_scratch3 cc0_scratch4 cc0_scratch5) Kt := by
  rw [cc0_body_eq_skeleton]; unfold cc0_body_skel
  rw [k0_part33_eq_skeleton]; unfold k0_part33_skel startP
  iintro ⟨⟨⟨#HR, Hat, Hc, ⟨Ht0, Ht1, Ht2⟩, Htok, Hrc⟩, HO, Hx, Hw, ⟨%f, Hf⟩⟩, Hk⟩
  ihave Hf := (buffer c f).1 $$ Hf
  icases Hf with ⟨⟨Hq0, Hq1, Hq2, Hq3⟩, Hb⟩
  ihave Hb := (Entails.of_eq (by_dir (fun i : I => cp c (rch i c) fullShare f))) $$ Hb
  icases Hb with ⟨Hb0, Hb1, Hb2⟩
  ihave Hb0 := (hand c 0 f) $$ Hb0
  ihave Hb1 := (hand c 1 f) $$ Hb1
  ihave Hb2 := (hand c 2 f) $$ Hb2
  unfold run
  rw [wp_bind, wp_bind]
  iapply (part1 c _)
  iintro %v2 %v5 %v8 %v18 %v21 %v22 %v23 %v24 %v26 %v29 %v34
  rw [wp_bind]
  iapply (part2 m K c _)
  isplitl [Hat Hc Ht0 Ht1 Ht2 HO Hb0 Hb1 Hb2]
  · isplitr; · iexact HR
    isplitl [Hat]; · iexact Hat
    isplitl [Hc]; · iexact Hc
    isplitl [HO]; · iexact HO
    isplitl [Ht0 Hb0]
    · isplitl [Ht0]; · iexact Ht0
      iexact Hb0
    isplitl [Ht1 Hb1]
    · isplitl [Ht1]; · iexact Ht1
      iexact Hb1
    isplitl [Ht2]; · iexact Ht2
    iexact Hb2
  iintro ⟨Hz, HO, Hb⟩ %r2
  ihave Ht := (to_send (F := F) c) $$ [Htok Hb]
  · isplitl [Htok]; · iexact Htok
    iexact Hb
  ihave Hrc := (Entails.of_eq (held_all (Rc (F := F) c)).symm) $$ Hrc
  rw [wp_bind]
  iapply (part3 c _)
  rw [wp_bind]
  iapply (part4 m K c _ f)
  isplitl [HO Ht Hrc Hx Hw Hq0]
  · isplitl [HO Ht Hrc]
    · unfold At0
      isplitr; · iexact HR
      isplitl [HO]; · iexact HO
      isplitl [Ht]; · iexact Ht
      iexact Hrc
    isplitl [Hx]; · iexact Hx
    isplitl [Hw]; · iexact Hw
    iexact Hq0
  iintro ⟨Hs, Hx, Hw⟩ %w41 %w42
  rw [wp_bind]
  iapply (part5 m K c _)
  isplitl [Hs]; · iexact Hs
  iintro Hs %r5
  rw [wp_bind]
  iapply (part6 m K c _)
  isplitl [Hs]; · iexact Hs
  iintro Hs %r6
  rw [wp_bind]
  iapply (part7 m K c _ f)
  isplitl [Hs Hw Hq1]
  · isplitl [Hs]; · iexact Hs
    isplitl [Hw]; · iexact Hw
    iexact Hq1
  iintro ⟨Hs, Hw, Hrest⟩ %w71 %w72
  rw [wp_bind]
  iapply (part8 m K c _)
  isplitl [Hs Hw]
  · isplitl [Hs]; · iexact Hs
    iexact Hw
  iintro ⟨Hs, Hw⟩
  rw [wp_bind]
  iapply (part9 m K c _ f)
  isplitl [Hs Hw Hq2 Hq3]
  · isplitl [Hs]; · iexact Hs
    isplitl [Hw]; · iexact Hw
    isplitl [Hq2]; · iexact Hq2
    iexact Hq3
  iintro ⟨Hs, Hw, Hq2, Hq3⟩
  rw [wp_bind]
  iapply (part10 m K c _)
  isplitl [Hs]; · iexact Hs
  iintro Hs
  rw [wp_bind]
  iapply (part11 m K c _)
  isplitl [Hs]; · iexact Hs
  iintro Hs %r11
  rw [wp_bind]
  iapply (part12 m K c _)
  isplitl [Hs]; · iexact Hs
  iintro Hs %r12
  rw [wp_bind]
  iapply (part13 m K c _)
  isplitl [Hs]; · iexact Hs
  iintro Hs %r13
  rw [wp_bind]
  iapply (part14 m K c _)
  isplitl [Hs]; · iexact Hs
  iintro Hs %r14
  rw [wp_bind]
  iapply (part15 m K c _)
  isplitl [Hs]; · iexact Hs
  iintro Hs %r15
  rw [wp_bind]
  iapply (part16 m K c _)
  isplitl [Hs]; · iexact Hs
  iintro Hs %r16
  rw [wp_bind]
  iapply (part17 m K c _)
  isplitl [Hs]; · iexact Hs
  iintro Hs
  rw [wp_bind]
  iapply (part18 m K c _)
  isplitl [Hs]; · iexact Hs
  iintro Hs %r18
  rw [wp_bind]
  iapply (part19 m K c _)
  isplitl [Hs]; · iexact Hs
  iintro Hs
  rw [wp_bind]
  iapply (part20 m K c _)
  isplitl [Hs]; · iexact Hs
  iintro Hs
  rw [wp_bind]
  iapply (part21 m K c _)
  isplitl [Hs]; · iexact Hs
  iintro Hs
  rw [wp_bind]
  iapply (part22 m K c _)
  isplitl [Hs]; · iexact Hs
  iintro Hs %r22
  rw [wp_bind]
  iapply (part23 m K c _)
  isplitl [Hs]; · iexact Hs
  iintro Hs %r23
  rw [wp_bind]
  iapply (part24 m K c _)
  isplitl [Hs]; · iexact Hs
  iintro Hs
  rw [wp_bind]
  iapply (part25 m K c _)
  isplitl [Hs]; · iexact Hs
  iintro Hs
  rw [wp_bind]
  iapply (part26 m K c _)
  isplitl [Hs]; · iexact Hs
  iintro Hs
  rw [wp_bind]
  iapply (part27 m K c _)
  isplitl [Hs]; · iexact Hs
  iintro Hs
  rw [wp_bind]
  iapply (part28 m K c _)
  isplitl [Hs]; · iexact Hs
  iintro Hs
  rw [wp_bind]
  iapply (part29 m K c _)
  isplitl [Hs]; · iexact Hs
  iintro Hs
  rw [wp_bind]
  iapply (part30 m K c _)
  isplitl [Hs]; · iexact Hs
  iintro Hs
  rw [wp_bind]
  iapply (part31 m K c _)
  isplitl [Hs]; · iexact Hs
  iintro Hs
  rw [wp_bind]
  iapply (part32 m K c _)
  isplitl [Hs]; · iexact Hs
  iintro Hs
  simp only [Prog.lift, Prog.bind_op, Prog.bind_ret, Prog.pure_eq_ret]
  iapply (at_ret m K c 95 30 rfl) $$ Hs; iintro Hs
  iapply (at_ret m K c 96 31 rfl) $$ Hs; iintro Hs
  ihave He := (at_end m K c) $$ [Hs Hrest Hq2 Hq3]
  · isplitl [Hs]; · iexact Hs
    isplitl [Hrest]; · iexact Hrest
    isplitl [Hq2]; · iexact Hq2
    iexact Hq3
  icases He with ⟨HO, Hcl, Hf⟩
  iapply (load_all c (G m c)) $$ Hf; iintro Hf
  iapply (load_all c (G m c)) $$ Hf; iintro Hf
  iapply (store_all c (G m c) _) $$ Hf; iintro Hf
  unfold run
  rw [wp_ret]; imodintro
  rw [wp_ret]; imodintro
  iapply Hk
  isplitl [Hz Hcl]
  · unfold doneP
    isplitl [Hz]; · iexact Hz
    iexact Hcl
  isplitl [HO]; · iexact HO
  isplitl [Hx]; · iexact Hx
  isplitl [Hw]; · iexact Hw
  unfold outAt allSum ownSum
  iexact Hf

end Cert.KernelIdeal.Soft

end
-- ==== Proof.KernelIdeal.Run.lean ====
/-
# The run of the program on all devices

The launch: the cells and what is known of them are set up for all devices at once, each device gets what its body
starts from, and after the run every device's result is what its body leaves, its arguments are unchanged and every
semaphore is zero again.
-/
module

public import proofs.«01_k».proof.Proof.KernelIdeal.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

set_option maxRecDepth 100000

noncomputable section

namespace Cert.KernelIdeal.Soft

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-! ## The body as the pipeline calls it -/

/-- What a device's body starts from, the staged arrays apart. -/
def Φ₀ (c : Dev nD) : sProp 𝕄 := iprop(∃ K, startP m K c)
/-- What it ends with. -/
def Φ₁ (c : Dev nD) : sProp 𝕄 := doneP c

/-- The arrays, what the body leaves in their staging buffers, and what is owed before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- The three staging buffers one by one. -/
theorem windows (Φ : Fin cfg0.W → sProp 𝕄) : bigSep Finset.univ Φ = iprop(Φ (0 : Fin 3) ∗ Φ (1 : Fin 3) ∗ Φ (2 : Fin 3)) := bigSep_W0 Φ

/-- A whole staging buffer at contents `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

omit [FloatOps F] in
/-- Holding a whole staging buffer, spelt out. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the pipeline hands the body. -/
def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- What the pipeline takes back. -/
def bodyPost (c : Dev nD) : sProp 𝕄 :=
  iprop(Φ₁ c ∗ (dats m ρ 0 c).owesAt () t0_0.succ
    ∗ stg c cc0_stg0_0 (xstg m c) ∗ stg c cc0_stg1_0 (wstg m c) ∗ stg c cc0_stg2_0 (outAt m c))

/-- The body takes what the pipeline hands it to what the pipeline takes back. -/
theorem body_runs (c : Dev nD) : bodyPre m ρ c ⊢ run c
    (cc0_body (Memref.whole cc0_stg0_0) (Memref.isWhole_whole _) (Memref.whole cc0_stg1_0) (Memref.isWhole_whole _)
      (Memref.whole cc0_stg2_0) (Memref.isWhole_whole _) cc0_scratch0 cc0_scratch1 cc0_scratch2 cc0_scratch3 cc0_scratch4 cc0_scratch5) (fun _ => bodyPost m ρ c) := by
  unfold bodyPre Φ₀
  iintro ⟨⟨%K, Hs⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = O₀ c from rfl]
  iapply (body m K c fun _ => bodyPost m ρ c)
  isplitl [Hs HO Hx Hw Hout]
  · isplitl [Hs]; · iexact Hs
    isplitl [HO]; · iexists W; iexact HO
    isplitl [Hx]; · unfold xP; iexact Hx
    isplitl [Hw]; · unfold wP; iexact Hw
    iexists g2; iexact Hout
  · iintro ⟨Hd, ⟨%W', HO⟩, Hx, Hw, Hout⟩
    unfold bodyPost Φ₁ Dat.owesAt Pipeline.owesWithin xP wP
    rw [show (dats m ρ 0 c).owed t0_0.succ = 0 from rfl]
    isplitl [Hd]; · iexact Hd
    isplitl [HO]
    · iexists W'
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Hout

/-- The pipeline's obligation for the body. -/
theorem body_obligation (c : Dev nD) : BodyObligation (dats (F := F) m ρ 0 c) (defs₀ (F := F)) 𝒱₀ () Set.univ := fun t => by
  rw [fin_N0 t, windows, windows]
  simp only [owns_stg]
  exact body_runs m ρ c

/-! ## The cells and tokens at launch -/

/-- The kernel's own semaphores: two for each copy. -/
abbrev osem (k : Bool × I) : SemLoc sig := csem (some k)
/-- They are the kernel's, each once. -/
theorem ownSemFacts : Pipeline.OwnSemFacts cfg0.spec osem := by decide +kernel

/-- Every array is held whole. -/
theorem share_eq (c : Dev nD) (w : Fin cfg0.W) : (dats m ρ 0 c).share w = fullShare := by unfold Dat.share; split <;> rfl

/-- Distinct devices and purposes have distinct cells. -/
theorem cell_injective : Function.Injective (fun ck : Dev nD × CK => cell ck.1 ck.2) := by
  rintro ⟨c, k⟩ ⟨c', k'⟩ h
  have h1 : c = c' := congrArg (fun g : GSem nD τ sig => g.1.1) h
  have h2 : k = k' := csem_inj (congrArg Prod.snd h)
  rw [h1, h2]
/-- All cells of all devices. -/
def allCells : Finset (GSem nD τ sig) := Finset.univ.map ⟨_, cell_injective⟩

/-- The tokens of device `c`'s own cells: three on its barrier, one on each other cell. -/
def tokOf (ct : Dev nD × (Fin 3 ⊕ (Bool × I))) : GSem nD τ sig × ℕ × Fin 3 := match ct.2 with
  | .inl d => (barCell ct.1, 0, d)
  | .inr k => (cell ct.1 (some k), 0, 0)
/-- The tokens are distinct. -/
theorem tokOf_injective : Function.Injective tokOf := by
  rintro ⟨c, t⟩ ⟨c', t'⟩ h
  have hc : cell c (t.elim (fun _ => none) some) = cell c' (t'.elim (fun _ => none) some) := by
    have := congrArg Prod.fst h
    rcases t with d | k <;> rcases t' with d' | k' <;> exact this
  have := cell_injective (a₁ := (c, _)) (a₂ := (c', _)) hc
  have h1 : c = c' := congrArg Prod.fst this
  have h2 := congrArg Prod.snd this
  subst h1
  rcases t with d | k <;> rcases t' with d' | k'
  · have h3 : d = d' := congrArg (fun x : GSem nD τ sig × ℕ × Fin 3 => x.2.2) h
    rw [h3]
  · exact absurd h2 (fun h => by cases h)
  · exact absurd h2 (fun h => by cases h)
  · have h3 : k = k' := Option.some.inj h2
    rw [h3]
/-- All tokens of all devices. -/
def allToks : Finset (GSem nD τ sig × ℕ × Fin 3) := Finset.univ.map ⟨tokOf, tokOf_injective⟩

/-- The ghost state at launch. -/
def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun d : Fin 3 => dutyTok ER (barCell c) 0 d) ∗ bigSep Finset.univ fun k : Bool × I => dutyTok ER (cell c (some k)) 0 0)
/-- What the launch deals device `c`. -/
def Deal (c : Dev nD) : sProp 𝕄 :=
  iprop((bigSep Finset.univ fun k : CK => roundState ER (Rd m) (cell c k) 0)
    ∗ (bigSep Finset.univ fun k : CK => iprop(atPos ER (cell c k) 0 ∅ 0 ∗ reached ER (cell c k) 0)) ∗ toks c)

/-- The launch's ghost state, dealt to the devices. -/
theorem deal : BI.own (ER (initOf allCells allToks)) ⊢ (|==> bigSep Finset.univ (Deal m) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m) allCells allToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Deal; simp only [bigSep_sep']
  isplitl [Hst]; · iexact Hst
  isplitl [Hat Hr]
  · isplitl [Hat] <;> iassumption
  iexact Htok

omit [FloatOps F] in
/-- Something for each cell of a device: for its barrier and for the cells of its copies. -/
theorem by_cell (Φ : CK → sProp 𝕄) : bigSep Finset.univ Φ = iprop(Φ none ∗ bigSep Finset.univ fun k : Bool × I => Φ (some k)) := by
  rw [show (Finset.univ : Finset CK) = insert none (Finset.univ.map Function.Embedding.some) from by
    ext k; cases k <;> simp, bigSep_insert (by simp), bigSep_map]; rfl

omit [FloatOps F] in
/-- The barrier semaphore is the one that is not the kernel's own. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- A device's semaphores are those of its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (cell c k) 0 : sProp 𝕄) := by
  rw [unscopedSems0_eq, by_cell]
  unfold Pipeline.ownSems0
  iintro ⟨H, HB⟩
  isplitl [HB]; · iexact HB
  iexact H

/-- The cells of one device, allocated. -/
theorem core_alloc (c : Dev nD) :
    iprop(Pipeline.ownSems0 (Ix := Unit) (Name := ℕ) (U := UU) (Lvl := ℕ) (Val := Elt F) (τ := τ) osem c ∗ unscopedSems0 c ∗ Deal m c)
      ⊢ |={Set.univ}=> iprop((bigSep Finset.univ fun k => iprop(∃ κ : ℕ, cellInv ER (Rd m) κ (cell c k)))
          ∗ (bigSep Finset.univ fun k => iprop(atPos ER (cell c k) 0 ∅ 0 ∗ reached ER (cell c k) 0)) ∗ toks c) := by
  unfold Deal
  iintro ⟨Hos, Hus, Hst, Hat, Htok⟩
  ihave Hv := (sems0_eq (F := F) c) $$ [Hos Hus]
  · isplitl [Hos] <;> iassumption
  imod (show iprop((bigSep Finset.univ fun k : CK => semVal (cell c k) 0) ∗ bigSep Finset.univ fun k : CK => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## What each device gets -/

/-- What all devices know, but for the levels. -/
def known (K : Dev nD × CK → ℕ) : sProp 𝕄 :=
  iprop((bigSep Finset.univ fun ck : Dev nD × CK => cellInv ER (Rd m) (K ck) (cell ck.1 ck.2))
    ∗ bigSep Finset.univ fun ck : Dev nD × CK => reached ER (cell ck.1 ck.2) 0)
/-- What is known stays known. -/
instance known_persistent (K : Dev nD × CK → ℕ) : BI.Persistent (known m K) := by unfold known; infer_instance

/-- The tokens device `c` pays with: one on each neighbour's barrier, for each copy one on its own cell and one on the
    receiver's. -/
def payToks (c : Dev nD) : sProp 𝕄 :=
  iprop((bigSep Finset.univ fun d : Fin 3 => dutyTok ER (barCell (nb d c)) 0 d)
    ∗ bigSep Finset.univ (fun i : I => dutyTok ER (sendCell c i) 0 0) ∗ bigSep Finset.univ fun i : I => dutyTok ER (recvCell (peer i c) i) 0 0)
/-- What is device `c`'s alone: its positions and its tokens. -/
def alone (c : Dev nD) : sProp 𝕄 := iprop((bigSep Finset.univ fun k : CK => atPos ER (cell c k) 0 ∅ 0) ∗ payToks c)
/-- What a device has after the cells are allocated. -/
def Share (c : Dev nD) : sProp 𝕄 := iprop(∃ K, known m K ∗ alone c)

omit [FloatOps F] in
/-- Something for each pair of a direction or copy and device, counted at the neighbour instead. -/
theorem around {A : Type} [Fintype A] [DecidableEq A] (e : A → Dev nD ≃ Dev nD) (Φ : A → Dev nD → sProp 𝕄) :
    (bigSep Finset.univ fun c : Dev nD => bigSep Finset.univ fun a : A => Φ a c) = bigSep Finset.univ fun c : Dev nD => bigSep Finset.univ fun a : A => Φ a (e a c) := by
  rw [bigSep_univ_comm, bigSep_univ_comm (fun (c : Dev nD) (a : A) => Φ a (e a c))]
  exact bigSep_congr fun a _ => bigSep_univ_equiv (e a) (Φ a)

omit [FloatOps F] in
/-- Something for each cell of a copy: at the sender and at the receiver. -/
theorem by_side (Φ : Bool × I → sProp 𝕄) :
    bigSep Finset.univ Φ = iprop((bigSep Finset.univ fun i : I => Φ (false, i)) ∗ bigSep Finset.univ fun i : I => Φ (true, i)) := by
  rw [bigSep_univ_prod, bigSep_univ_eq_bigSepL [false, true] (by decide) (by decide)]; rfl

omit [FloatOps F] in
/-- Each token goes to the device that pays with it. -/
theorem toks_around : (bigSep Finset.univ fun c : Dev nD => (toks c : sProp 𝕄)) ⊢ bigSep Finset.univ fun c : Dev nD => payToks c := by
  have hs : ∀ c : Dev nD, (toks c : sProp 𝕄) = iprop((bigSep Finset.univ fun d : Fin 3 => dutyTok ER (barCell c) 0 d)
      ∗ bigSep Finset.univ (fun i : I => dutyTok ER (sendCell c i) 0 0) ∗ bigSep Finset.univ fun i : I => dutyTok ER (recvCell c i) 0 0) := fun c => by
    unfold toks; rw [by_side]; rfl
  rw [bigSep_congr fun c _ => hs c]
  unfold payToks
  rw [bigSep_sep', bigSep_sep', bigSep_sep', bigSep_sep', around swap (fun (d : Fin 3) (c : Dev nD) => dutyTok ER (barCell c) 0 d),
    around (fun i => swap (dir i)) (fun (i : I) (c : Dev nD) => dutyTok ER (recvCell c i) 0 0)]
  exact BI.Entails.refl _

omit [FloatOps F] in
/-- What all know is there for each. -/
theorem with_known {A : Type} [DecidableEq A] {S : Finset A} {R : sProp 𝕄} [BI.Persistent R] {Φ Ψ : A → sProp 𝕄}
    (h : ∀ a ∈ S, iprop(R ∗ Φ a) ⊢ Ψ a) : iprop(R ∗ bigSep S Φ) ⊢ bigSep S Ψ :=
  (sep_mono_left (BI.bigSep_of_persistent S R)).trans (by rw [← bigSep_sep']; exact bigSep_mono h)

/-- The allocated cells of all devices, sorted into what all know and what is each device's. -/
theorem regroup :
    (bigSep Finset.univ fun c : Dev nD => iprop((bigSep Finset.univ fun k => iprop(∃ κ : ℕ, cellInv ER (Rd m) κ (cell c k)))
          ∗ (bigSep Finset.univ fun k => iprop(atPos ER (cell c k) 0 ∅ 0 ∗ reached ER (cell c k) 0)) ∗ toks c) : sProp 𝕄)
      ⊢ bigSep Finset.univ (Share m) := by
  rw [bigSep_sep', bigSep_sep', ← bigSep_univ_prod (fun ck : Dev nD × CK => iprop(∃ κ : ℕ, cellInv ER (Rd m) κ (cell ck.1 ck.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun ck : Dev nD × CK => (reached ER (cell ck.1 ck.2) 0 : sProp 𝕄))]
  iintro ⟨HI, ⟨Hat, #HR⟩, Htok⟩
  ihave HK := (BI.bigSep_exists_pi Finset.univ (fun (ck : Dev nD × CK) (κ : ℕ) => (cellInv ER (Rd m) κ (cell ck.1 ck.2) : sProp 𝕄))) $$ HI
  icases HK with ⟨%K, #HI⟩
  ihave Htk := (toks_around (F := F)) $$ Htok
  iapply (with_known (R := known m K) (Φ := fun c => alone c) fun c _ => show iprop(known m K ∗ alone c) ⊢ Share m c from by
    unfold Share; iintro H; iexists K; iexact H)
  isplitr
  · unfold known; isplitl; · iexact HI
    iexact HR
  · unfold alone
    rw [bigSep_sep']
    isplitl [Hat]; · iexact Hat
    iexact Htk

/-- The launch's step over all devices. -/
theorem glob : (bigSep Finset.univ fun c => iprop(Pipeline.ownSems0 (Ix := Unit) (Name := ℕ) (U := UU) (Lvl := ℕ) (Val := Elt F) (τ := τ) osem c ∗ unscopedSems0 c ∗ Deal m c) : sProp 𝕄)
    ⊢ |={Set.univ}=> bigSep Finset.univ (Share m) :=
  ((bigSep_mono fun c _ => core_alloc m c).trans (bigSep_fupd _ _)).trans (BI.fupd_mono (regroup m))

/-! ## The credits at launch -/

/-- Distinct devices have distinct barriers, -/
theorem bar_iff {a b : Dev nD} : barCell a = barCell b ↔ a = b :=
  ⟨fun h => congrArg (fun g : GSem nD τ sig => g.1.1) h, fun h => h ▸ rfl⟩
/-- distinct copies and devices distinct receive cells, -/
theorem recv_iff {a b : Dev nD} {i j : I} : recvCell a i = recvCell b j ↔ a = b ∧ i = j :=
  ⟨fun h => ⟨congrArg (fun g : GSem nD τ sig => g.1.1) h, by
    have := csem_inj (k := some (true, i)) (k' := some (true, j)) (congrArg Prod.snd h); exact congrArg Prod.snd (Option.some.inj this)⟩,
   fun h => by rw [h.1, h.2]⟩
/-- and none of these is a barrier. -/
theorem recv_ne_bar (a b : Dev nD) (i : I) : recvCell a i ≠ barCell b := fun h => by cases congrArg Prod.snd h

/-- Nothing of the copies is owed to a barrier. -/
theorem debt_bar (d c : Dev nD) : ∀ l : List I, debt d l (barCell c) () = 0
  | [] => rfl
  | i :: l => by unfold debt; rw [Pi.add_apply, Finsupp.add_apply, debt_bar d c l, tallyAt_ne_cell (recv_ne_bar _ _ _).symm, Finsupp.zero_apply, Nat.zero_add]
/-- What of a list of copies is owed to a receive cell. -/
theorem debt_recv (d c : Dev nD) (i : I) : ∀ l : List I, debt d l (recvCell c i) () = if d = peer i c then N * l.count i else 0
  | [] => by simp [debt]
  | j :: l => by
    unfold debt; rw [Pi.add_apply, Finsupp.add_apply, debt_recv d c i l, tallyAt_apply]
    by_cases hj : j = i
    · subst hj
      rw [List.count_cons_self]
      by_cases h : d = peer j c
      · subst h; rw [peer_peer, if_pos rfl, if_pos ⟨rfl, rfl⟩, if_pos rfl, Nat.mul_succ]
      · rw [if_neg h, if_neg h, if_neg fun h' => h (by rw [(recv_iff.mp h'.1).1, peer_peer])]
    · rw [List.count_cons_of_ne hj, if_neg (c := recvCell c i = recvCell (peer j d) j ∧ () = ()) fun h' => hj (recv_iff.mp h'.1).2.symm, Nat.add_zero]

/-- What device `d` owes a barrier. -/
theorem owed_bar (d c : Dev nD) : O₀ d (barCell c) () = (if d = zt c then 1 else 0) + (if d = xn c then 1 else 0) + (if d = yp c then 1 else 0) := by
  have e (k : Fin 3) : (tallyAt (barCell (nb k d)) () 1 : CellTallies nD τ sig Unit) (barCell c) () = if d = nb k c then 1 else 0 := by
    rw [tallyAt_apply]
    by_cases h : d = nb k c
    · subst h; rw [nb_nb, if_pos ⟨rfl, rfl⟩, if_pos rfl]
    · rw [if_neg h, if_neg fun h' => h (by rw [bar_iff.mp h'.1, nb_nb])]
  unfold O₀
  simp only [Pi.add_apply, Finsupp.add_apply]
  rw [debt_bar, Nat.zero_add]
  exact congrArg₂ (· + ·) (congrArg₂ (· + ·) (e 2) (e 1)) (e 0)
/-- What device `d` owes a receive cell. -/
theorem owed_recv (d c : Dev nD) (i : I) : O₀ d (recvCell c i) () = if d = peer i c then N else 0 := by
  unfold O₀
  simp only [Pi.add_apply, Finsupp.add_apply]
  rw [debt_recv, tallyAt_ne_cell (recv_ne_bar _ _ _), tallyAt_ne_cell (recv_ne_bar _ _ _), tallyAt_ne_cell (recv_ne_bar _ _ _),
    show sendOrder.count i = 1 from by revert i; decide, Nat.mul_one]; rfl

/-- All devices together owe a device's barrier three units, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (zt c) fun _ => 1, Finset.sum_ite_eq' Finset.univ (xn c) fun _ => 1, Finset.sum_ite_eq' Finset.univ (yp c) fun _ => 1,
    if_pos (Finset.mem_univ _), if_pos (Finset.mem_univ _), if_pos (Finset.mem_univ _)]
/-- and each of its receive cells one copy. -/
theorem launch_recv (c : Dev nD) (i : I) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (peer i c) fun _ => N,
    if_pos (Finset.mem_univ _)]

/-- The receive semaphores of a device. -/
def recvSems : Finset (SemLoc sig) := Finset.univ.map ⟨fun i : I => csem (some (true, i)), fun i j h => congrArg Prod.snd (Option.some.inj (csem_inj h))⟩

omit [FloatOps F] in
/-- The credits of a device: three units on its barrier, a block's on each receive cell. -/
theorem creds (c : Dev nD) :
    (Pipeline.launchCred O₀ c : sProp 𝕄) ⊢ iprop(cred (tallyAt (barCell c) () 3) ∗ bigSep Finset.univ fun i : I => cred (tallyAt (recvCell c i) () N)) := by
  unfold Pipeline.launchCred
  rw [bigSep_univ_at _ (SemLoc.reg barS), launch_bar]
  refine sep_mono_right ?_
  have hsub : recvSems ⊆ Finset.univ.erase (SemLoc.reg barS) := fun q hq => by
    obtain ⟨i, _, rfl⟩ := Finset.mem_map.mp hq
    exact Finset.mem_erase.mpr ⟨fun h => (by cases h), Finset.mem_univ _⟩
  refine (bigSep_subset hsub).trans ?_
  unfold recvSems
  rw [bigSep_map, bigSep_congr (s := Finset.univ) fun (i : I) _ => congrArg cred (launch_recv c i).symm]
  exact BI.Entails.refl _

/-! ## The theorem's side conditions -/

/-- What a device has at launch is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Share m c)
      ⊢ |={Set.univ}=> iprop(Φ₀ m c ∗ emp) := by
  iintro ⟨-, #Hlev, Hcr, -, HG⟩
  ihave Hc := (creds (F := F) c) $$ Hcr
  icases Hc with ⟨H3, HN⟩
  unfold Share alone payToks
  icases HG with ⟨%K, #HK, Hat, Hb, Hs, Hr⟩
  ihave Hat := (Entails.of_eq (by_cell (fun k : CK => atPos ER (cell c k) 0 ∅ 0))) $$ Hat
  icases Hat with ⟨Hab, Hak⟩
  ihave Hak := (Entails.of_eq (by_side (fun k => atPos ER (cell c (some k)) 0 ∅ 0))) $$ Hak
  icases Hak with ⟨Has, Har⟩
  ihave Hb := (Entails.of_eq (show (bigSep Finset.univ fun d : Fin 3 => dutyTok ER (barCell (nb d c)) 0 d : sProp 𝕄)
    = iprop(dutyTok ER (barCell (nb 0 c)) 0 0 ∗ dutyTok ER (barCell (nb 1 c)) 0 1 ∗ dutyTok ER (barCell (nb 2 c)) 0 2) from
      bigSep_univ_eq_bigSepL [0, 1, 2] (by decide) (by decide) _)) $$ Hb
  imodintro
  isplitl
  · unfold Φ₀ startP Tok Rc
    rw [bigSep_sep', bigSep_sep', bigSep_sep']
    iexists K
    isplitr
    · unfold records
      isplitl; · unfold known; iexact HK
      iexact Hlev
    isplitl [Hab]; · iexact Hab
    isplitl [H3]; · iexact H3
    isplitl [Hb]; · iexact Hb
    isplitl [Hs Hr Has]
    · isplitl [Hs]; · iexact Hs
      isplitl [Hr]; · iexact Hr
      iexact Has
    isplitl [Har]; · iexact Har
    iexact HN
  · iempintro

/-- What a device is dealt is what its body starts from. -/
theorem phi0_intro (c : Dev nD) :
    iprop(Φ₀ m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  iintro ⟨Hs, -, -⟩
  iexact Hs

/-- What its body ends with has every counter at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ doneP Pipeline.ownSems0
  iintro ⟨HB, HC⟩
  isplitl [HB]; · iexact HB
  isplitl [HC]; · iexact HC
  iempintro

/-- The staging copies may be waited on. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the arrays hold at the end. -/
def finalA (c : Dev nD) (w : Fin cfg0.W) : Buf (Elt F) ((cfg0.win w).arr.view.loc (c : Thread nD τ)) := (dats m ρ 0 c).arrAt w cfg0.N

/-- What the run leaves in the arrays. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters the program terminates on all devices; every array then holds what `finalA` says
    and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Deal m) (G' := Share m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := Φ₀ m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first argument holds at the end what it held. -/
theorem finalA_x (c : Dev nD) : finalA m ρ c (0 : Fin 3) = m ((c : Thread nD τ).loc main_arg0) :=
  (dats (F := F) m ρ 0 c).arrAt_in (0 : Fin 3) rfl _
/-- So does the second. -/
theorem finalA_w (c : Dev nD) : finalA m ρ c (1 : Fin 3) = m ((c : Thread nD τ).loc main_arg1) :=
  (dats (F := F) m ρ 0 c).arrAt_in (1 : Fin 3) rfl _

/-- The program terminates on all devices with the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1 c 0).trans (finalA_x m ρ c), (h.1 c 1).trans (finalA_w m ρ c)⟩, h.2⟩) (run_main m ρ)

end Cert.KernelIdeal.Soft

end
-- ==== Proof.Value.Softmax.lean ====
/-
# The softmax over the extended reals

The kernel divides exponentials by their sum; the reference first subtracts the row's maximum. Over finite logits the two
are equal, whatever real number is subtracted.
-/
module

public import Idealize.ShloMosaic.PureOps.Ideal

@[expose] public section

noncomputable section

namespace Cert.Soft

open Idealize.ShloMosaic

/-- A value is a real number. -/
def IsReal (x : EReal) : Prop := ∃ r : ℝ, x = (r : EReal)

/-- A value below infinity in magnitude is a real number. -/
theorem isReal_of_abs_lt {x : EReal} (h : max x (-x) < ⊤) : IsReal x := by
  induction x with
  | bot => simp at h
  | top => simp at h
  | coe r => exact ⟨r, rfl⟩

/-- A sum of real numbers is the sum as real numbers. -/
theorem coe_sum {ι : Type*} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- A sum of products of real numbers is a real number. -/
theorem isReal_dot {ι : Type*} (s : Finset ι) (x w : ι → EReal) (hx : ∀ i, IsReal (x i)) (hw : ∀ i, IsReal (w i)) :
    IsReal (∑ i ∈ s, x i * w i) := by
  choose a ha using hx
  choose b hb using hw
  refine ⟨∑ i ∈ s, a i * b i, ?_⟩
  rw [← coe_sum]
  exact Finset.sum_congr rfl fun i _ => by rw [ha, hb, EReal.coe_mul]

/-- The greatest of real numbers, counted from minus infinity, is a real number once there is one of them. -/
theorem isReal_max {ι : Type*} (s : Finset ι) (hs : s.Nonempty) (l : ι → EReal) (hl : ∀ i, IsReal (l i)) :
    IsReal (s.fold max ⊥ l) := by
  classical
  induction hs using Finset.Nonempty.cons_induction with
  | singleton a => rw [Finset.fold_singleton, max_bot_right]; exact hl a
  | cons a s ha hs ih =>
    rw [Finset.fold_cons]
    rcases max_choice (l a) (s.fold max ⊥ l) with h | h <;> rw [h]
    · exact hl a
    · exact ih

/-- The quotient of a real number by a real number that is not zero. -/
theorem div_real {a b : ℝ} (hb : b ≠ 0) : Ideal.div (a : EReal) (b : EReal) = ((a / b : ℝ) : EReal) := by
  rw [Ideal.div_coe hb, ← EReal.coe_mul, mul_one_div]

/-- Over finite logits, the exponential times the inverse of the exponentials' sum is the quotient of the same after any
    real number is subtracted from every logit. -/
theorem softmax_shift {ι : Type*} [Fintype ι] (l : ι → EReal) (hl : ∀ i, IsReal (l i)) (M : EReal) (hM : IsReal M) (j : ι) :
    Ideal.exp (l j) * Ideal.div 1 (∑ i, Ideal.exp (l i))
      = Ideal.div (Ideal.exp (l j - M)) (∑ i, Ideal.exp (l i - M)) := by
  choose a ha using hl
  obtain ⟨M, rfl⟩ := hM
  have h1 : ∀ i, Ideal.exp (l i) = ((Real.exp (a i) : ℝ) : EReal) := fun i => by rw [ha, Ideal.exp_coe]
  have h2 : ∀ i, Ideal.exp (l i - M) = ((Real.exp (a i - M) : ℝ) : EReal) := fun i => by rw [ha, ← EReal.coe_sub, Ideal.exp_coe]
  have p1 : (∑ i, Real.exp (a i)) ≠ 0 := (Finset.sum_pos (fun i _ => Real.exp_pos _) ⟨j, Finset.mem_univ _⟩).ne'
  have p2 : (∑ i, Real.exp (a i - M)) ≠ 0 := (Finset.sum_pos (fun i _ => Real.exp_pos _) ⟨j, Finset.mem_univ _⟩).ne'
  rw [Finset.sum_congr rfl fun i _ => h1 i, Finset.sum_congr rfl fun i _ => h2 i, h1, h2, coe_sum, coe_sum,
    ← EReal.coe_one, div_real p1, div_real p2, ← EReal.coe_mul]
  congr 1
  have h3 : (∑ i, Real.exp (a i - M)) = (∑ i, Real.exp (a i)) / Real.exp M := by
    rw [Finset.sum_div]; exact Finset.sum_congr rfl fun i _ => Real.exp_sub _ _
  rw [h3, Real.exp_sub, div_div_div_cancel_right₀ (Real.exp_ne_zero M), mul_one_div]

end Cert.Soft

end
-- ==== Proof.Value.Rows.lean ====
/-
# The kernel's row sums and result, read at an index

A device adds up its exponentials stretch by stretch: four quarters it computes and six stretches it receives. The
stretches are together every column once, so the sum is the whole row's.
-/
module

public import proofs.«01_k».proof.Proof.KernelIdeal.Run
public import Idealize.ShloMosaic.Lib.Pointwise
public import Idealize.ShloMosaic.Lib.Layout

@[expose] public section

set_option maxRecDepth 100000

noncomputable section

namespace Cert.KernelIdeal.Soft

open Cert.KernelIdeal Cert.KernelIdeal.Gen
open Idealize.ShloMosaic Idealize.ShloMosaic.TcCoe

/-! ## Sums by blocks -/

/-- A sum over blocks of 128 that follow one another is the sum of the blocks' sums. -/
theorem sum_stretch (g : ℕ → EReal) (a l : ℕ) :
    ∑ k ∈ Finset.range (128 * l), g (128 * a + k) = ((List.range l).map fun t => ∑ k ∈ Finset.range 128, g (128 * (a + t) + k)).sum := by
  induction l with
  | zero => rfl
  | succ l ih =>
    rw [Nat.mul_succ, Finset.sum_range_add, ih, List.range_succ, List.map_append, List.sum_append]
    congr 1
    simp only [List.map_cons, List.map_nil, List.sum_cons, List.sum_nil, add_zero]
    exact Finset.sum_congr rfl fun k _ => congrArg g (by omega)

/-- The stretches a device sums, as a first block and a number of blocks. -/
def runs (c : Dev nD) : List (ℕ × ℕ) :=
  [(own c + 8 * quar c 0, 8), (own c + 8 * quar c 1, 8), (own c + 8 * quar c 2, 8), (own c + 8 * quar c 3, 8),
    (rch 0 c, 8), (rch 8 c, 3), (rch 22 c, 8), (rch 11 c, 8), (rch 30 c, 2), (rch 19 c, 3)]

/-- They are all 64 blocks, each once. -/
theorem runs_perm (c : Dev nD) : ((runs c).flatMap fun r => (List.range r.2).map fun t => r.1 + t).Perm (List.range 64) := by
  revert c; decide +kernel

/-- The sum over the stretches is the sum over all columns. -/
theorem sum_runs (g : ℕ → EReal) (c : Dev nD) :
    ((runs c).map fun r => ∑ k ∈ Finset.range (128 * r.2), g (128 * r.1 + k)).sum = ∑ k ∈ Finset.range 8192, g k := by
  have h := sum_stretch g 0 64
  simp only [Nat.mul_zero, Nat.zero_add] at h
  rw [show 8192 = 128 * 64 from rfl, h, ← ((runs_perm c).map fun t => ∑ k ∈ Finset.range 128, g (128 * t + k)).sum_eq]
  rw [List.map_flatMap, List.flatMap_def, List.sum_flatten, List.map_map]
  exact congrArg List.sum (List.map_congr_left fun r _ => by
    rw [sum_stretch]; simp only [Function.comp, List.map_map]; rfl)

/-! ## The payloads at an index -/

/-- A quarter's exponentials. -/
theorem pay2_at (x : Vec Ideal S256x512 .f32) (w : Vec Ideal S512x1024 .f32) (i : Fin 256) (b : Fin 1024) :
    k0_pay2 x w (ix2 i b) = Ideal.exp (∑ k : Fin 512, x (ix2 i k) * w (ix2 k b)) := by
  pointwise [k0_pay2, k0_pay1]

/-- The first quarter's row sums. -/
theorem pay3_at (x : Vec Ideal S256x512 .f32) (w : Vec Ideal S512x1024 .f32) (i : Fin 256) :
    k0_pay3 x w (ix2 i 0) = ∑ b : Fin 1024, k0_pay2 x w (ix2 i b) := by
  pointwise [k0_pay3]

/-- The second quarter's, added. -/
theorem pay5_at (x : Vec Ideal S256x512 .f32) (s : FVec Ideal S256x1 .f32) (w : Vec Ideal S512x1024 .f32) (i : Fin 256) :
    k0_pay5 (k0_pay1 x) s w (ix2 i 0) = s (ix2 i 0) + ∑ b : Fin 1024, k0_pay2 x w (ix2 i b) := by
  pointwise [k0_pay5, k0_pay4, k0_pay1, k0_pay2]

/-- The third and fourth quarters', added. -/
theorem pay9_at (x : Vec Ideal S256x512 .f32) (s : FVec Ideal S256x1 .f32) (w w' : Vec Ideal S512x1024 .f32) (i : Fin 256) :
    k0_pay9 (k0_pay1 x) s (k0_pay6 w) w' (ix2 i 0)
      = s (ix2 i 0) + (∑ b : Fin 1024, k0_pay2 x w (ix2 i b)) + ∑ b : Fin 1024, k0_pay2 x w' (ix2 i b) := by
  pointwise [k0_pay9, k0_pay8, k0_pay7, k0_pay6, k0_pay1, k0_pay2]

/-- A received stretch's sums, added. -/
theorem pay10_at (s : FVec Ideal S256x1 .f32) (v : Vec Ideal S256x1024 .f32) (i : Fin 256) :
    k0_pay10 s v (ix2 i 0) = s (ix2 i 0) + ∑ b : Fin 1024, v (ix2 i b) := by
  pointwise [k0_pay10]
/-- The next stretch's sums, added. -/
theorem pay11_at (s : FVec Ideal S256x1 .f32) (v : Vec Ideal S256x384 .f32) (i : Fin 256) :
    k0_pay11 s v (ix2 i 0) = s (ix2 i 0) + ∑ b : Fin 384, v (ix2 i b) := by
  pointwise [k0_pay11]
/-- The next stretch's sums, added. -/
theorem pay12_at (s : FVec Ideal S256x1 .f32) (v : Vec Ideal S256x1024 .f32) (i : Fin 256) :
    k0_pay12 s v (ix2 i 0) = s (ix2 i 0) + ∑ b : Fin 1024, v (ix2 i b) := by
  pointwise [k0_pay12]
/-- The next stretch's sums, added. -/
theorem pay13_at (s : FVec Ideal S256x1 .f32) (v : Vec Ideal S256x1024 .f32) (i : Fin 256) :
    k0_pay13 s v (ix2 i 0) = s (ix2 i 0) + ∑ b : Fin 1024, v (ix2 i b) := by
  pointwise [k0_pay13]
/-- The next stretch's sums, added. -/
theorem pay14_at (s : FVec Ideal S256x1 .f32) (v : Vec Ideal S256x256 .f32) (i : Fin 256) :
    k0_pay14 s v (ix2 i 0) = s (ix2 i 0) + ∑ b : Fin 256, v (ix2 i b) := by
  pointwise [k0_pay14]
/-- The next stretch's sums, added. -/
theorem pay15_at (s : FVec Ideal S256x1 .f32) (v : Vec Ideal S256x384 .f32) (i : Fin 256) :
    k0_pay15 s v (ix2 i 0) = s (ix2 i 0) + ∑ b : Fin 384, v (ix2 i b) := by
  pointwise [k0_pay15]

/-- The result from the row sums. -/
theorem pay16_at (s : FVec Ideal S256x1 .f32) (o : Vec Ideal S256x8192 .f32) (i : Fin 256) (j : Fin 8192) :
    k0_pay16 s o (ix2 i j) = o (ix2 i j) * Ideal.div 1 (s (ix2 i 0)) := by
  pointwise [k0_pay16]

/-! ## The exponentials at an index -/

variable (m : (ℓ : Loc nD τ sig) → Buf (Elt Ideal) ℓ) (c : Dev nD)

/-- The two operands, the exponentials and the result of device `c` as matrices. -/
abbrev xV : Vec Ideal S256x512 .f32 := xstg m c
@[inherit_doc xV] abbrev wV : Vec Ideal S512x4096 .f32 := wstg m c
@[inherit_doc xV] abbrev eV : Vec Ideal S256x8192 .f32 := eAt m c
@[inherit_doc xV] abbrev gV : Vec Ideal S256x8192 .f32 := G m c
@[inherit_doc xV] abbrev oV : Vec Ideal S256x8192 .f32 := outAt m c

/-- A quarter of `W` at an index. -/
theorem wq_at (q : Fin 4) (k : Fin 512) (b : Fin 1024) :
    wq m c q (ix2 k b) = wV m c (ix2 k ⟨1024 * q.val + b.val, by omega⟩) := by
  unfold wq
  show wV m c _ = wV m c _
  refine congrArg (wV m c) (funext fun d => Fin.ext ?_)
  fin_cases d
  · show 0 + 1 * k.val = k.val; omega
  · show 1024 * q.val + 1 * b.val = 1024 * q.val + b.val; omega

/-- A device's exponentials at a column of the result, taken modulo the 4096 columns of its half of `W`. -/
theorem eAt_at (i : Fin 256) (j : Fin 8192) :
    eV m c (ix2 i j) = Ideal.exp (∑ k : Fin 512, xV m c (ix2 i k) * wV m c (ix2 k ⟨j.val % 4096, by omega⟩)) := by
  have h : eV m c (ix2 i j) = k0_pay2 (xV m c) (wq m c ⟨j.val / 1024 % 4, Nat.mod_lt _ (by decide)⟩) (ix2 i ⟨j.val % 1024, Nat.mod_lt _ (by decide)⟩) :=
    congrArg (k0_pay2 (xV m c) (wq m c ⟨j.val / 1024 % 4, Nat.mod_lt _ (by decide)⟩)) (ix2_eq_valueIdx i _).symm
  rw [h, pay2_at]
  refine congrArg Ideal.exp (Finset.sum_congr rfl fun k _ => ?_)
  rw [wq_at]
  congr 3
  refine Fin.ext ?_
  show 1024 * (j.val / 1024 % 4) + j.val % 1024 = j.val % 4096
  omega

/-! ## The row sums -/

/-- A row of a result by column; zero past the last. -/
def row (f : Vec Ideal S256x8192 .f32) (i : Fin 256) (k : ℕ) : EReal := if h : k < 8192 then f (ix2 i ⟨k, h⟩) else 0

/-- The sum of a row of a loaded stretch. -/
theorem load_sum (f : Vec Ideal S256x8192 .f32) (i : Fin 256) (a n : ℕ) {off : Fin 2 → ℕ} (hoff : off = ![0, 128 * a])
    (inb : ∀ d, off d + (⟨2, ![256, n]⟩ : Shape).size d ≤ S256x8192.size d) :
    ∑ b : Fin n, oM.view.readAt (Elt Ideal) (Rect.unit (s := S256x8192) off (⟨2, ![256, n]⟩ : Shape).size inb).toLoadRect f (ix2 i b)
      = ∑ k ∈ Finset.range n, row f i (128 * a + k) := by
  subst hoff
  have h : 128 * a + n ≤ 8192 := inb 1
  rw [Finset.sum_range]
  refine Finset.sum_congr rfl fun b _ => ?_
  unfold row
  rw [dif_pos (by omega)]
  show f _ = f _
  refine congrArg f (funext fun d => Fin.ext ?_)
  fin_cases d
  · show 0 + 1 * i.val = i.val; omega
  · show 128 * a + 1 * b.val = 128 * a + b.val; omega

/-- The sum of a row of a computed quarter. -/
theorem quarter_sum (i : Fin 256) (a : Fin 4) :
    ∑ b : Fin 1024, k0_pay2 (xV m c) (wq m c (qF c a)) (ix2 i b)
      = ∑ k ∈ Finset.range 1024, row (gV m c) i (128 * (own c + 8 * quar c a) + k) := by
  rw [Finset.sum_range]
  refine Finset.sum_congr rfl fun b _ => ?_
  have hq := quar_lt c a
  have ho := own_or_oth c
  have hb := b.isLt
  unfold row
  rw [dif_pos (by omega)]
  show _ = eV m (org c ((128 * (own c + 8 * quar c a) + b.val) / 128)) _
  rw [org_own c _ (by omega), eAt_at, pay2_at]
  refine congrArg Ideal.exp (Finset.sum_congr rfl fun k _ => ?_)
  rw [wq_at]
  congr 3
  refine Fin.ext ?_
  show 1024 * quar c a + b.val = (128 * (own c + 8 * quar c a) + b.val) % 4096
  omega

/-- A device's row sums are the sums of its result's exponentials over all columns. -/
theorem allSum_at (i : Fin 256) : allSum m c (ix2 i 0) = ∑ j : Fin 8192, gV m c (ix2 i j) := by
  unfold allSum ownSum
  rw [pay15_at, pay14_at, pay13_at, pay12_at, pay11_at, pay10_at, pay9_at, pay5_at, pay3_at]
  rw [quarter_sum, quarter_sum, quarter_sum, quarter_sum]
  rw [load_sum (gV m c) i _ 1024 (off12 c), load_sum (gV m c) i _ 384 (off13 c), load_sum (gV m c) i _ 1024 (off15 c),
    load_sum (gV m c) i _ 1024 (off17 c), load_sum (gV m c) i _ 256 (off18 c), load_sum (gV m c) i _ 384 (off19 c)]
  have h := sum_runs (row (gV m c) i) c
  rw [Finset.sum_range (n := 8192)] at h
  rw [show (∑ j : Fin 8192, gV m c (ix2 i j)) = ∑ j : Fin 8192, row (gV m c) i j.val from
    Finset.sum_congr rfl fun j _ => by unfold row; rw [dif_pos j.isLt], ← h]
  simp only [runs, List.map_cons, List.map_nil, List.sum_cons, List.sum_nil, add_zero, Nat.reduceMul, add_assoc]

/-- The result: each exponential times the inverse of its row's sum. -/
theorem outAt_at (i : Fin 256) (j : Fin 8192) :
    oV m c (ix2 i j) = gV m c (ix2 i j) * Ideal.div 1 (∑ k : Fin 8192, gV m c (ix2 i k)) := by
  unfold oV outAt
  rw [pay16_at, allSum_at]

/-! ## The whole arrays' product -/

/-- The logits of the whole arrays. -/
def logit (X : Vec Ideal ⟨2, ![256, 512]⟩ .f32) (W : Vec Ideal ⟨2, ![512, 8192]⟩ .f32) (i : Fin 256) (j : Fin 8192) : EReal :=
  ∑ k : Fin 512, X (ix2 i k) * W (ix2 k j)

/-- The half of the second argument's columns that a device has. -/
def halfW (W : Vec Ideal ⟨2, ![512, 8192]⟩ .f32) (c : Dev nD) : Vec Ideal ⟨2, ![512, 4096]⟩ .f32 :=
  Layout.blockN ⟨2, ![512, 4096]⟩ ⟨2, ![512, 8192]⟩ (Layout.meshBlock [2, 2, 4] ![[], [1]] c) W

variable (X : Vec Ideal ⟨2, ![256, 512]⟩ .f32) (W : Vec Ideal ⟨2, ![512, 8192]⟩ .f32)
  (hX : ∀ c : Dev nD, m ((c.tc : Thread nD τ).loc main_arg0) = X)
  (hW : ∀ c : Dev nD, m ((c.tc : Thread nD τ).loc main_arg1) = halfW W c)

include hX in
/-- The kernel's first operand is the whole first argument. -/
theorem xstg_eq : xV m c = X := by
  rw [← hX c]
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- The kernel's second operand is the device's second argument, -/
theorem wstg_whole : wV m c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

/-- (whose columns are columns of the whole,) -/
theorem half_lt (b : Fin 4096) : 128 * own c + b.val < 8192 := by have := own_or_oth c; omega

include hW in
/-- which is the device's half of the second argument's columns. -/
theorem wstg_at (k : Fin 512) (b : Fin 4096) :
    wV m c (ix2 k b) = W (ix2 k ⟨128 * own c + b.val, half_lt c b⟩) := by
  have hm : ∀ c : Dev nD, ((Layout.meshBlock [2, 2, 4] ![[], [1]] c : (b : Fin 2) → _) 0).val = 0 ∧
      ((Layout.meshBlock [2, 2, 4] ![[], [1]] c : (b : Fin 2) → _) 1).val * 4096 = 128 * own c := by decide +kernel
  rw [wstg_whole, hW c, halfW, Layout.blockN_apply]
  refine congrArg W (funext fun d => Fin.ext ?_)
  rw [Layout.TilesN.idx_val]
  fin_cases d
  · show ((Layout.meshBlock [2, 2, 4] ![[], [1]] c : (b : Fin 2) → _) 0).val * 512 + k.val = k.val
    rw [(hm c).1]; omega
  · show ((Layout.meshBlock [2, 2, 4] ![[], [1]] c : (b : Fin 2) → _) 1).val * 4096 + b.val = 128 * own c + b.val
    rw [(hm c).2]

include hX hW in
/-- Wherever an exponential was computed, it is the exponential of the whole arrays' logit. -/
theorem G_at (i : Fin 256) (j : Fin 8192) : gV m c (ix2 i j) = Ideal.exp (logit X W i j) := by
  have hj := j.isLt
  show eV m (org c (j.val / 128)) _ = _
  rw [eAt_at]
  unfold logit
  refine congrArg Ideal.exp (Finset.sum_congr rfl fun k _ => ?_)
  rw [xstg_eq m _ X hX, wstg_at m _ W hW]
  congr 3
  refine Fin.ext ?_
  have := own_org c ⟨j.val / 128, by omega⟩
  show 128 * own (org c (j.val / 128)) + j.val % 4096 = j.val
  simp only at this
  omega

/-! ## The result array -/

/-- The result array holds at the end what the body left. -/
theorem finalA_out (ρ : Dev nD → PrngReg) : finalA m ρ c (2 : Fin 3) = oV m c := by
  have h : (win0_2.blk (0 : Fin 1)).view.read (Elt Ideal) (finalA m ρ c (2 : Fin 3)) = oV m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 :=
    funext fun a => by fin_cases a <;> decide
  rw [← h]
  exact (Memref.read_access_unit_zero (Elt Ideal) main_v1 hz (fun a => by fin_cases a <;> decide) _).symm

end Cert.KernelIdeal.Soft

end
-- ==== Proof.Value.Reference.lean ====
/-
# The reference's value, and why the kernel's is the same
-/
module

public import proofs.«01_k».proof.Proof.Value.Softmax
public import proofs.«01_k».proof.Proof.Value.Rows
public import proofs.«01_k».proof.Proof.Gen.ReferenceIdeal.Run
public import proofs.«01_k».proof.Pre_finite_KernelIdeal
public import proofs.«01_k».proof.Pre_finite_ReferenceIdeal
public import Idealize.ShloMosaic.Lib.ReduceAll

@[expose] public section

set_option maxRecDepth 100000

noncomputable section

namespace Cert.Soft

open Idealize.ShloMosaic Idealize.ShloMosaic.TcCoe

/-! ## The reference at an index -/

section
open Cert.ReferenceIdeal Cert.ReferenceIdeal.Gen

variable (X : Vec Ideal S256x512 .f32) (W : Vec Ideal S512x8192 .f32)

/-- The reference's logits. -/
def refLogits : FVec Ideal S256x8192 .f32 := Host.dotGeneral (F := Ideal) (φ₁ := .f32) (φ₂ := .f32) dot_S256x512_S512x8192_S256x8192_1_0_0_1_n_n none X W
/-- The rows' maxima, in every column. -/
def refMax (L : FVec Ideal S256x8192 .f32) : FVec Ideal S256x8192 .f32 :=
  broadcastInDim S256x8192 ![0, 1] bcast_S256x1_S256x8192_0_1 (broadcastInDim S256x1 ![0] bcast_S256_S256x1_0
    (Host.reduce FloatOps.maximumf L (constant S_ .f32 0xFF800000#32) reducesTo_S256x8192_S256_d1 h_S_))
/-- The rows' sums, in every column. -/
def refSum (E : FVec Ideal S256x8192 .f32) : FVec Ideal S256x8192 .f32 :=
  broadcastInDim S256x8192 ![0, 1] bcast_S256x1_S256x8192_0_1 (broadcastInDim S256x1 ![0] bcast_S256_S256x1_0
    (Host.reduceAdd E (constant S_ .f32 0x00000000#32) reducesTo_S256x8192_S256_d1 h_S_))
/-- The exponentials of the logits less their row's maximum. -/
def refExp : FVec Ideal S256x8192 .f32 := Host.exp (subf (refLogits X W) (refMax (refLogits X W)))
/-- The reference's result. -/
def refOut : FVec Ideal S256x8192 .f32 := Host.divf (refExp X W) (refSum (refExp X W))

/-- A logit is the sum of products along the shared axis. -/
theorem refLogits_at (i : Fin 256) (j : Fin 8192) : refLogits X W (ix2 i j) = Cert.KernelIdeal.Soft.logit X W i j := by
  unfold Cert.KernelIdeal.Soft.logit
  pointwise [refLogits]

/-- The word the maximum starts from is minus infinity. -/
theorem start_bot : Ideal.ofBits .f32 0xFF800000#32 = ⊥ := by simp [Ideal.ofBits, Ideal.ieee]

/-- A row's maximum. -/
theorem refMax_at (L : FVec Ideal S256x8192 .f32) (i : Fin 256) (j : Fin 8192) :
    refMax L (ix2 i j) = (Finset.univ : Finset (Fin 8192)).fold max ⊥ fun k => L (ix2 i k) := by
  pointwise [refMax]
  rw [start_bot]

/-- A row's sum. -/
theorem refSum_at (E : FVec Ideal S256x8192 .f32) (i : Fin 256) (j : Fin 8192) :
    refSum E (ix2 i j) = ∑ k : Fin 8192, E (ix2 i k) := by
  pointwise [refSum]

/-- The result at an index. -/
theorem refOut_at (i : Fin 256) (j : Fin 8192) :
    refOut X W (ix2 i j) = Ideal.div (refExp X W (ix2 i j)) (refSum (refExp X W) (ix2 i j)) := by
  pointwise [refOut]
/-- An exponential at an index. -/
theorem refExp_at (i : Fin 256) (j : Fin 8192) :
    refExp X W (ix2 i j) = Ideal.exp (refLogits X W (ix2 i j) - refMax (refLogits X W) (ix2 i j)) := by
  pointwise [refExp]

/-- Over real logits, the reference's result is the exponential times the inverse of its row's sum of exponentials. -/
theorem refOut_eq (hl : ∀ i j, IsReal (Cert.KernelIdeal.Soft.logit X W i j)) (i : Fin 256) (j : Fin 8192) :
    refOut X W (ix2 i j) = Ideal.exp (Cert.KernelIdeal.Soft.logit X W i j)
      * Ideal.div 1 (∑ k : Fin 8192, Ideal.exp (Cert.KernelIdeal.Soft.logit X W i k)) := by
  have hM : IsReal ((Finset.univ : Finset (Fin 8192)).fold max ⊥ fun k => Cert.KernelIdeal.Soft.logit X W i k) :=
    isReal_max _ ⟨0, Finset.mem_univ _⟩ _ (hl i)
  rw [refOut_at, refSum_at, softmax_shift _ (hl i) _ hM]
  simp only [refExp_at, refMax_at, refLogits_at]

end

/-! ## The precondition -/

section
open Cert.KernelIdeal Cert.KernelIdeal.Gen

/-- The facts the precondition states. -/
instance preFacts : Cert.Pre_finite_KernelIdeal.Facts where
  bcast_S_S256x512 := by decide
  reducesTo_S256x512_S_d0_1 := by decide
  h_S_ := by decide
  bcast_S_S512x4096 := by decide
  reducesTo_S512x4096_S_d0_1 := by decide
@[inherit_doc preFacts] instance preFactsRef : Cert.Pre_finite_ReferenceIdeal.Facts where
  bcast_S_S256x512 := by decide
  reducesTo_S256x512_S_d0_1 := by decide
  h_S_ := by decide
  bcast_S_S512x8192 := by decide
  reducesTo_S512x8192_S_d0_1 := by decide

/-- The word the precondition compares with is infinity. -/
theorem bound_top : Ideal.ofBits .f32 0x7F800000#32 = ⊤ := by simp [Ideal.ofBits, Ideal.ieee]

/-- A comparison below infinity that is 1 says that the value is a real number. -/
theorem isReal_of_cmp {x : EReal} (h : Ideal.cmp .olt (max x (-x)) (Ideal.ofBits .f32 0x7F800000#32) = 1#1) : IsReal x := by
  rw [bound_top] at h
  refine isReal_of_abs_lt ?_
  by_contra hn
  simp [Ideal.cmp, hn] at h

/-- There is one index of rank zero. -/
instance : Subsingleton (⟨0, ![]⟩ : Shape).Idx := ⟨fun _ _ => funext fun a => a.elim0⟩

/-- Under the precondition every element of both blocks is a real number. -/
theorem real_of_pre (x : FVec Ideal S256x512 .f32) (w : FVec Ideal S512x4096 .f32)
    (h : Cert.Pre_finite_KernelIdeal.fn (F := Ideal) x w = fun _ => 1#1) : (∀ i, IsReal (x i)) ∧ ∀ i, IsReal (w i) := by
  have h0 := congrFun h ix0
  obtain ⟨h1, h2⟩ := (IntOp.andi_eq_one).1 h0
  exact ⟨fun i => isReal_of_cmp (Host.reduce_andi_all _ _ _ _ _ h1 i), fun i => isReal_of_cmp (Host.reduce_andi_all _ _ _ _ _ h2 i)⟩

variable (m : (ℓ : Loc nD τ sig) → Buf (Elt Ideal) ℓ)
  (X : Vec Ideal ⟨2, ![256, 512]⟩ .f32) (W : Vec Ideal ⟨2, ![512, 8192]⟩ .f32)
  (hX : ∀ c : Dev nD, m ((c.tc : Thread nD τ).loc main_arg0) = X)
  (hW : ∀ c : Dev nD, m ((c.tc : Thread nD τ).loc main_arg1) = Cert.KernelIdeal.Soft.halfW W c)
  (hp : ∀ c : Dev nD, Cert.Pre_finite_KernelIdeal.fn (F := Ideal) (m ((c.tc : Thread nD τ).loc main_arg0)) (m ((c.tc : Thread nD τ).loc main_arg1)) = fun _ => 1#1)

include hX hW hp in
/-- Under the precondition on all devices the logits are real numbers. -/
theorem logit_real (i : Fin 256) (j : Fin 8192) : IsReal (Cert.KernelIdeal.Soft.logit X W i j) := by
  refine isReal_dot _ _ _ (fun k => ?_) fun k => ?_
  · have h := (real_of_pre _ _ (hp 0)).1 (ix2 i k)
    rw [hX] at h; exact h
  · have hj := j.isLt
    obtain ⟨c, hc⟩ : ∃ c : Dev nD, Cert.KernelIdeal.Soft.own c = 32 * (j.val / 4096) := by
      rcases (by omega : j.val / 4096 = 0 ∨ j.val / 4096 = 1) with h | h <;> rw [h]
      · exact ⟨0, by decide⟩
      · exact ⟨4, by decide⟩
    have h := (real_of_pre _ _ (hp c)).2 (ix2 k ⟨j.val % 4096, by omega⟩)
    have e := Cert.KernelIdeal.Soft.wstg_at m c W hW k ⟨j.val % 4096, by omega⟩
    rw [Cert.KernelIdeal.Soft.wstg_whole] at e
    rw [e] at h
    have e' : (⟨128 * Cert.KernelIdeal.Soft.own c + j.val % 4096, by rw [hc]; omega⟩ : Fin 8192) = j := Fin.ext (by show _ * _ + _ = _; rw [hc]; omega)
    rw [e'] at h; exact h

include hX hW hp in
/-- Under the precondition every device's result is the reference's. -/
theorem value (c : Dev nD) : Cert.KernelIdeal.Soft.oV m c = refOut X W := by
  funext i
  obtain ⟨a, b, rfl⟩ : ∃ (a : Fin 256) (b : Fin 8192), i = ix2 a b := ⟨i 0, i 1, eq_ix2 i⟩
  rw [Cert.KernelIdeal.Soft.outAt_at, refOut_eq X W (logit_real m X W hX hW hp)]
  simp only [Cert.KernelIdeal.Soft.G_at m c X W hX hW]

end

end Cert.Soft

end
-- ==== Proof.lean ====
/-
# The certificate's claims

The kernel runs on sixteen devices; `Proof/KernelIdeal/` (and its copy for the program as printed, `Proof/Kernel/`) proves
that every execution ends, with the arguments kept, all semaphores at zero and each device's result in closed form;
`Proof/Value/` proves that the result is the reference's.
-/
module

public import proofs.«01_k».proof.Defs
public import proofs.«01_k».proof.Proof.Kernel.Run
public import proofs.«01_k».proof.Proof.KernelIdeal.Run
public import proofs.«01_k».proof.Proof.Value.Reference
public import Idealize.ShloMosaic.Lib.Quiescent

@[expose] public section

noncomputable section

namespace Cert.Proof

open Idealize.ShloMosaic Idealize.ShloMosaic.TcCoe Idealize.SL.Sem

/-- The kernel as printed ends on every device with its arguments kept and its semaphores at zero. -/
theorem frame_P : Cert.quiescent_Kernel (hKernel := Cert.Kernel.Gen.facts) := fun m g _ => Cert.Kernel.Soft.frame m g

/-- So does the idealized kernel, -/
theorem frame_PI : Cert.quiescent_KernelIdeal (hKernelIdeal := Cert.KernelIdeal.Gen.facts) := fun m g _ => Cert.KernelIdeal.Soft.frame m g

/-- also under the precondition, -/
theorem frame_PI_pre : Cert.quiescent_KernelIdeal_pre_finite_KernelIdeal (hKernelIdeal := Cert.KernelIdeal.Gen.facts)
    (hPre_finite_KernelIdeal := Cert.Soft.preFacts) := fun m g _ => Cert.KernelIdeal.Soft.frame m g

/-- and the reference. -/
theorem frame_RI : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The same under the precondition. -/
theorem frame_RI_pre : Cert.quiescent_ReferenceIdeal_pre_finite_ReferenceIdeal (hReferenceIdeal := Cert.ReferenceIdeal.Gen.facts)
    (hPre_finite_ReferenceIdeal := Cert.Soft.preFactsRef) := fun m g _ => frame_RI m g trivial

/-- Every device's result is the whole of the reference's. -/
theorem algebraic : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Soft.preFacts) := by
  intro m g m' g' hp hagree
  refine ⟨Cert.Soft.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨(h.1 c 2).trans ?_, (h.1 c 0).trans (Cert.KernelIdeal.Soft.finalA_x m g c),
      (h.1 c 1).trans (Cert.KernelIdeal.Soft.finalA_w m g c)⟩) (Cert.KernelIdeal.Soft.run_main m g)
    exact (Cert.KernelIdeal.Soft.finalA_out m c g).trans
      (Cert.Soft.value m _ _ (fun c => (hagree c).1) (fun c => (hagree c).2) hp c)
  · exact (θ_run Cert.ReferenceIdeal.defs _ _).mono (fun r h => h 0) (Cert.ReferenceIdeal.Value.run (F := Ideal) m' g')

/-- All the claims. -/
theorem claim : Cert.Claim :=
  ⟨Cert.Kernel.Gen.facts, Cert.KernelIdeal.Gen.facts, Cert.ReferenceIdeal.Gen.facts, Cert.Soft.preFacts, Cert.Soft.preFactsRef,
    frame_P, frame_PI, frame_PI_pre, frame_RI, frame_RI_pre, trivial, algebraic⟩

end Cert.Proof

end
